-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x3072x7168 : Shape := ⟨3, ![3, 3072, 7168]⟩
abbrev S7168x4608 : Shape := ⟨2, ![7168, 4608]⟩
abbrev S4608 : Shape := ⟨1, ![4608]⟩
abbrev S9216x7168 : Shape := ⟨2, ![9216, 7168]⟩
abbrev S1x4608 : Shape := ⟨2, ![1, 4608]⟩
abbrev S9216x1 : Shape := ⟨2, ![9216, 1]⟩
abbrev S9216x2304 : Shape := ⟨2, ![9216, 2304]⟩
abbrev S256x7168 : Shape := ⟨2, ![256, 7168]⟩
abbrev S256x1 : Shape := ⟨2, ![256, 1]⟩
abbrev S256x2304 : Shape := ⟨2, ![256, 2304]⟩
abbrev S256 : Shape := ⟨1, ![256]⟩
abbrev S1x255 : Shape := ⟨2, ![1, 255]⟩
abbrev S256x255 : Shape := ⟨2, ![256, 255]⟩
abbrev S256x4608 : Shape := ⟨2, ![256, 4608]⟩

abbrev nBuf : Space → Nat
  | .hbm => 9
  | .vmem => 12
  | .smem => 0
  | _ => 0

abbrev bufTy : (tb : Table) → Fin (tcTables nBuf tb) → BufTy
  | .hbm, ⟨0, _⟩ => ⟨S3x3072x7168, .bf16⟩
  | .hbm, ⟨1, _⟩ => ⟨S7168x4608, .fp8e4m3⟩
  | .hbm, ⟨2, _⟩ => ⟨S4608, .f32⟩
  | .hbm, ⟨3, _⟩ => ⟨S9216x7168, .bf16⟩
  | .hbm, ⟨4, _⟩ => ⟨S1x4608, .f32⟩
  | .hbm, ⟨5, _⟩ => ⟨S9216x1, .f32⟩
  | .hbm, ⟨6, _⟩ => ⟨S9216x2304, .fp8e4m3⟩
  | .hbm, ⟨7, _⟩ => ⟨S9216x7168, .fp8e4m3⟩
  | .hbm, ⟨8, _⟩ => ⟨S9216x1, .f32⟩
  | .local _ .vmem, ⟨0, _⟩ => ⟨S256x7168, .bf16⟩
  | .local _ .vmem, ⟨1, _⟩ => ⟨S256x7168, .bf16⟩
  | .local _ .vmem, ⟨2, _⟩ => ⟨S7168x4608, .fp8e4m3⟩
  | .local _ .vmem, ⟨3, _⟩ => ⟨S1x4608, .f32⟩
  | .local _ .vmem, ⟨4, _⟩ => ⟨S256x1, .f32⟩
  | .local _ .vmem, ⟨5, _⟩ => ⟨S256x1, .f32⟩
  | .local _ .vmem, ⟨6, _⟩ => ⟨S256x2304, .fp8e4m3⟩
  | .local _ .vmem, ⟨7, _⟩ => ⟨S256x2304, .fp8e4m3⟩
  | .local _ .vmem, ⟨8, _⟩ => ⟨S256x7168, .fp8e4m3⟩
  | .local _ .vmem, ⟨9, _⟩ => ⟨S256x7168, .fp8e4m3⟩
  | .local _ .vmem, ⟨10, _⟩ => ⟨S256x1, .f32⟩
  | .local _ .vmem, ⟨11, _⟩ => ⟨S256x1, .f32⟩
  | _, _ => ⟨S3x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x7168 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x3072x7168 : Shape := ⟨3, ![3, 3072, 7168]⟩
abbrev S7168x4608 : Shape := ⟨2, ![7168, 4608]⟩
abbrev S4608 : Shape := ⟨1, ![4608]⟩
abbrev S9216x7168 : Shape := ⟨2, ![9216, 7168]⟩
abbrev S1x4608 : Shape := ⟨2, ![1, 4608]⟩
abbrev S9216x1 : Shape := ⟨2, ![9216, 1]⟩
abbrev S9216x2304 : Shape := ⟨2, ![9216, 2304]⟩
abbrev S9216 : Shape := ⟨1, ![9216]⟩
abbrev S1x256 : Shape := ⟨2, ![1, 256]⟩
abbrev S9216x256 : Shape := ⟨2, ![9216, 256]⟩
abbrev S9216x4608 : Shape := ⟨2, ![9216, 4608]⟩

abbrev nBuf : Space → Nat
  | .hbm => 9
  | .vmem => 7
  | .smem => 0
  | _ => 0

abbrev bufTy : (tb : Table) → Fin (tcTables nBuf tb) → BufTy
  | .hbm, ⟨0, _⟩ => ⟨S3x3072x7168, .bf16⟩
  | .hbm, ⟨1, _⟩ => ⟨S7168x4608, .fp8e4m3⟩
  | .hbm, ⟨2, _⟩ => ⟨S4608, .f32⟩
  | .hbm, ⟨3, _⟩ => ⟨S9216x7168, .bf16⟩
  | .hbm, ⟨4, _⟩ => ⟨S1x4608, .f32⟩
  | .hbm, ⟨5, _⟩ => ⟨S9216x1, .f32⟩
  | .hbm, ⟨6, _⟩ => ⟨S9216x2304, .fp8e4m3⟩
  | .hbm, ⟨7, _⟩ => ⟨S9216x7168, .fp8e4m3⟩
  | .hbm, ⟨8, _⟩ => ⟨S9216x1, .f32⟩
  | .local _ .vmem, ⟨0, _⟩ => ⟨S9216x7168, .bf16⟩
  | .local _ .vmem, ⟨1, _⟩ => ⟨S7168x4608, .fp8e4m3⟩
  | .local _ .vmem, ⟨2, _⟩ => ⟨S1x4608, .f32⟩
  | .local _ .vmem, ⟨3, _⟩ => ⟨S9216x1, .f32⟩
  | .local _ .vmem, ⟨4, _⟩ => ⟨S9216x2304, .fp8e4m3⟩
  | .local _ .vmem, ⟨5, _⟩ => ⟨S9216x7168, .fp8e4m3⟩
  | .local _ .vmem, ⟨6, _⟩ => ⟨S9216x1, .f32⟩
  | _, _ => ⟨S3x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S9216x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  THE POWER-OF-TWO SCALE OF A ROW. The kernel counts the powers of two at or below `t = amax * (1/448)` and builds the
  scale's word from the count; the reference takes the least power of two above `t` and raises two to its exponent. On
  the extended reals, for `amax ≥ 0`, the two scales are equal, and so are the two inverses.
-/
module

public import Idealize.ShloMosaic.PureOps.Ideal.Laws
public import Idealize.ShloMosaic.Lib.IndicatorCount

@[expose] public section

set_option maxRecDepth 16384

noncomputable section

namespace Cert.Scale

open Idealize.ShloMosaic

/-- The value of the word with the bits `n` from the exponent field up. -/
def power (n : BitVec 32) : EReal := Ideal.ofBits .f32 (IntOp.shli .vector n 23#32)

/-- `1/448` as the programs hold it. -/
def unit448 : EReal := Ideal.ofBits .f32 0x3B124925#32

/-- The kernel's exponent field of `t`: how many of the 255 powers are at or below `|t|`. -/
def kcount (t : EReal) : BitVec 32 :=
  (Finset.univ : Finset (Fin 255)).fold IntOp.addi 0#32 fun x =>
    (Ideal.cmp .oge (max t (-t)) (power (IntOp.addi (BitVec.ofNat 32 x.val) 1#32))).setWidth 32

/-- The kernel's exponent of the scale of a row whose largest magnitude is `a`. -/
def kexp (a : EReal) : BitVec 32 :=
  Scalar.select
    (IntOp.ori (IntOp.ori (IntOp.cmpi .eq (kcount (a * unit448)) 0#32) (IntOp.cmpi .eq (kcount (a * unit448)) 255#32))
      (Ideal.cmp .oeq a (Ideal.ofBits .f32 0x00000000#32)))
    0#32 (IntOp.subi (kcount (a * unit448)) 126#32)

/-- The kernel's power of two whose biased exponent is `n`. -/
def kword (n : BitVec 32) : EReal :=
  Ideal.ofBits .f32 (Scalar.select (IntOp.cmpi .sle n 0#32) 0#32 (IntOp.shli .vector (IntOp.minsi n 255#32) 23#32))

/-- The kernel's scale of a row whose largest magnitude is `a`. -/
def kscale (a : EReal) : EReal := kword (IntOp.addi 127#32 (kexp a))

/-- The kernel's inverse scale of a row whose largest magnitude is `a`. -/
def kinv (a : EReal) : EReal := kword (IntOp.addi 127#32 (IntOp.subi 0#32 (kexp a)))

/-- The exponent lane `x` of the reference stands for: `x - 127`. -/
def lane (x : Fin 256) : EReal := (((IntOp.subi (BitVec.ofNat 32 x.val) 127#32).toInt : ℝ) : EReal)

/-- The reference's least exponent whose power of two is above `t`. -/
def rleast (t : EReal) : EReal :=
  (Finset.univ : Finset (Fin 256)).fold min (Ideal.ofBits .f32 0x7F800000#32) fun x =>
    Scalar.select (Ideal.cmp .olt t (Ideal.exp2 (lane x))) (lane x) (Ideal.ofBits .f32 0x43000000#32)

/-- The reference's exponent of the scale of a row whose largest magnitude is `a`. -/
def rexp (a : EReal) : EReal :=
  Scalar.select (Ideal.cmp .oeq a (Ideal.ofBits .f32 0x00000000#32)) (Ideal.ofBits .f32 0x00000000#32)
    (Scalar.select
      (IntOp.andi (Ideal.cmp .oge (a * unit448) (Ideal.ofBits .f32 0x00800000#32))
        (Ideal.cmp .olt (a * unit448) (Ideal.ofBits .f32 0x7F800000#32)))
      (rleast (a * unit448)) (Ideal.ofBits .f32 0x00000000#32))

/-- The reference's `ldexp(1, e)`. -/
def rldexp (e : EReal) : EReal :=
  Scalar.select (Ideal.cmp .olt e (Ideal.ofBits .f32 0xC2FC0000#32)) (Ideal.ofBits .f32 0x00000000#32)
    (Scalar.select (Ideal.cmp .ogt e (Ideal.ofBits .f32 0x42FE0000#32)) (Ideal.ofBits .f32 0x7F800000#32) (Ideal.exp2 e))

/-- The reference's scale of a row whose largest magnitude is `a`. -/
def rscale (a : EReal) : EReal := rldexp (rexp a)

/-- The reference's inverse scale of a row whose largest magnitude is `a`. -/
def rinv (a : EReal) : EReal := rldexp (Ideal.ofBits .f32 0x00000000#32 - rexp a)

/-! ### The constants -/

/-- A selection by a decided proposition is the `if`. -/
theorem select_ofBool {α : Type} (p : Prop) [Decidable p] (x y : α) :
    Scalar.select (BitVec.ofBool (decide p)) x y = if p then x else y := by
  unfold Scalar.select; by_cases h : p <;> simp [h]

/-- A decided proposition's bit is one exactly where it holds. -/
theorem ofBool_decide_eq_one (p : Prop) [Decidable p] : BitVec.ofBool (decide p) = 1#1 ↔ p := by
  by_cases h : p <;> simp [h]

/-- The word with exponent field `n` and no other bit, `1 ≤ n ≤ 254`, is `2 ^ (n - 127)`. -/
theorem power_eq (n : ℕ) (h1 : 1 ≤ n) (h2 : n ≤ 254) : power (BitVec.ofNat 32 n) = (((2 : ℝ) ^ ((n : ℤ) - 127) : ℝ) : EReal) := by
  have key : ∀ n : Fin 255, (IntOp.shli .vector (BitVec.ofNat 32 n.val) 23#32).extractLsb' 31 1 = 0#1 ∧
      ((IntOp.shli .vector (BitVec.ofNat 32 n.val) 23#32).extractLsb' 23 8).toNat = n.val ∧
      ((IntOp.shli .vector (BitVec.ofNat 32 n.val) 23#32).extractLsb' 0 23).toNat = 0 := by decide +kernel
  obtain ⟨k1, k2, k3⟩ := key ⟨n, by omega⟩
  show Ideal.ieee 8 23 _ = _
  unfold Ideal.ieee
  simp only [show (8 + 23 : ℕ) = 31 from rfl, k1, k2, k3]
  rw [if_neg (by omega), if_neg (by omega)]
  refine EReal.coe_eq_coe_iff.2 ?_
  have e : (2 : ℝ) ^ ((n : ℤ) - (2 ^ (8 - 1) - 1) - (23 : ℕ)) = (2 : ℝ) ^ ((n : ℤ) - 127) / 2 ^ 23 := by
    rw [show ((n : ℤ) - (2 ^ (8 - 1) - 1) - (23 : ℕ)) = ((n : ℤ) - 127) - 23 by norm_num, zpow_sub₀ (by norm_num)]
    norm_num
  rw [e, show ((0#1 : BitVec 1) == 1#1) = false from rfl]
  simp only [Bool.false_eq_true, if_false, Nat.add_zero]
  push_cast
  ring

/-- The word with the all-ones exponent field is `⊤`. -/
theorem power_255 : power 255#32 = ⊤ := by
  unfold power
  rw [show IntOp.shli .vector 255#32 23#32 = 0x7F800000#32 by decide +kernel]
  simp [Ideal.ofBits, Ideal.ieee]

theorem ofBits_inf : Ideal.ofBits .f32 0x7F800000#32 = ⊤ := by simp [Ideal.ofBits, Ideal.ieee]

theorem ofBits_ninf : Ideal.ofBits .f32 0xFF800000#32 = ⊥ := by simp [Ideal.ofBits, Ideal.ieee]

theorem ofBits_128 : Ideal.ofBits .f32 0x43000000#32 = ((128 : ℝ) : EReal) := by
  simp [Ideal.ofBits, Ideal.ieee]; rw [← EReal.coe_mul]; norm_num

theorem ofBits_127 : Ideal.ofBits .f32 0x42FE0000#32 = ((127 : ℝ) : EReal) := by
  simp [Ideal.ofBits, Ideal.ieee]; rw [← EReal.coe_mul]; norm_num

theorem ofBits_n126 : Ideal.ofBits .f32 0xC2FC0000#32 = ((-126 : ℝ) : EReal) := by
  simp [Ideal.ofBits, Ideal.ieee]; rw [← EReal.coe_mul]; norm_num

theorem ofBits_min_normal : Ideal.ofBits .f32 0x00800000#32 = (((2 : ℝ) ^ (-126 : ℤ) : ℝ) : EReal) :=
  (power_eq 1 (by omega) (by omega)).trans (by norm_num)

theorem unit448_pos : ∃ c : ℝ, 0 < c ∧ unit448 = (c : EReal) := by
  refine ⟨_, ?_, by unfold unit448 Ideal.ofBits Ideal.ieee; simp; rfl⟩
  norm_num

theorem lane_eq (x : Fin 256) : lane x = (((x.val : ℝ) - 127 : ℝ) : EReal) := by
  have key : ∀ x : Fin 256, (IntOp.subi (BitVec.ofNat 32 x.val) 127#32).toInt = (x.val : ℤ) - 127 := by decide +kernel
  unfold lane; rw [key]; push_cast; rfl

theorem exp2_int (n : ℤ) : Ideal.exp2 (((n : ℝ)) : EReal) = (((2 : ℝ) ^ n : ℝ) : EReal) := by
  show ((Real.rpow 2 (n : ℝ) : ℝ) : EReal) = _
  congr 1
  exact Real.rpow_intCast 2 n

theorem lane_int (x : Fin 256) : lane x = ((((x.val : ℤ) - 127 : ℤ) : ℝ) : EReal) := by
  rw [lane_eq]; push_cast; rfl

/-! ### The exponents -/

/-- The threshold of lane `x` of the kernel. -/
theorem thr_eq (x : Fin 255) : power (IntOp.addi (BitVec.ofNat 32 x.val) 1#32) =
    if x.val < 254 then (((2 : ℝ) ^ ((x.val : ℤ) - 126) : ℝ) : EReal) else ⊤ := by
  have e : IntOp.addi (BitVec.ofNat 32 x.val) 1#32 = BitVec.ofNat 32 (x.val + 1) := (BitVec.ofNat_add ..).symm
  rw [e]
  split_ifs with h
  · rw [power_eq _ (by omega) (by omega)]; congr 2; push_cast; ring
  · have := x.isLt
    rw [show x.val + 1 = 255 by omega]; exact power_255

/-- The kernel's count is the number of thresholds at or below `t`, for `t ≥ 0`. -/
theorem kcount_eq (t : EReal) (ht : 0 ≤ t) :
    kcount t = BitVec.ofNat 32 ((Finset.univ : Finset (Fin 255)).filter fun x =>
      (if x.val < 254 then (((2 : ℝ) ^ ((x.val : ℤ) - 126) : ℝ) : EReal) else ⊤) ≤ t).card := by
  have hm : max t (-t) = t := max_eq_left ((EReal.neg_le.1 (by simpa using ht)).trans ht)
  unfold kcount
  rw [IndicatorCount.fold_addi_setWidth_eq_card]
  congr 2
  ext x
  simp only [Finset.mem_filter, Finset.mem_univ, true_and, hm, thr_eq]
  exact ofBool_decide_eq_one _

/-- The number of lanes below `k`. -/
theorem card_lt (k : ℕ) (hk : k ≤ 255) : ((Finset.univ : Finset (Fin 255)).filter fun x => x.val < k).card = k := by
  have := Fin.card_filter_val_lt (n := 255) (m := k)
  simpa [hk] using this

theorem two_zpow_le (m n : ℤ) : (2 : ℝ) ^ m ≤ 2 ^ n ↔ m ≤ n := zpow_le_zpow_iff_right₀ (by norm_num)
theorem two_zpow_lt (m n : ℤ) : (2 : ℝ) ^ m < 2 ^ n ↔ m < n := zpow_lt_zpow_iff_right₀ (by norm_num)

/-- The count at a finite `t` in the binade of field `k`. -/
theorem kcount_binade (t : ℝ) (k : ℕ) (hk : k ≤ 254) (h0 : 0 ≤ t) (h1 : 1 ≤ k → (2 : ℝ) ^ ((k : ℤ) - 127) ≤ t)
    (h2 : k < 254 → t < (2 : ℝ) ^ ((k : ℤ) - 126)) : kcount (t : EReal) = BitVec.ofNat 32 k := by
  rw [kcount_eq _ (EReal.coe_nonneg.2 h0)]
  conv_rhs => rw [← card_lt k (by omega)]
  congr 2
  ext x
  simp only [Finset.mem_filter, Finset.mem_univ, true_and]
  have hx := x.isLt
  split_ifs with hx2
  · rw [EReal.coe_le_coe_iff]
    constructor
    · intro h
      by_contra hc
      have := h2 (by omega)
      have h3 := (two_zpow_le ((k : ℤ) - 126) ((x.val : ℤ) - 126)).2 (by omega)
      linarith
    · intro h
      exact ((two_zpow_le ((x.val : ℤ) - 126) ((k : ℤ) - 127)).2 (by omega)).trans (h1 (by omega))
  · constructor
    · intro h; exact absurd (top_le_iff.1 h) (EReal.coe_ne_top t)
    · intro h; omega

/-- The count at `⊤`. -/
theorem kcount_top : kcount ⊤ = 255#32 := by
  rw [kcount_eq _ le_top]
  simp

/-- The reference's least exponent at a finite `t` in the binade of field `k ≥ 1`. -/
theorem rleast_binade (t : ℝ) (k : ℕ) (hk : k ≤ 254) (hk1 : 1 ≤ k) (h1 : (2 : ℝ) ^ ((k : ℤ) - 127) ≤ t)
    (h2 : k < 254 → t < (2 : ℝ) ^ ((k : ℤ) - 126)) : rleast (t : EReal) = ((((k : ℤ) - 126 : ℤ) : ℝ) : EReal) := by
  have lanev : ∀ x : Fin 256, Scalar.select (Ideal.cmp .olt (t : EReal) (Ideal.exp2 (lane x))) (lane x) (Ideal.ofBits .f32 0x43000000#32)
      = (((if t < (2 : ℝ) ^ ((x.val : ℤ) - 127) then ((x.val : ℤ) - 127) else 128 : ℤ) : ℝ) : EReal) := by
    intro x
    unfold Ideal.cmp
    simp only
    rw [select_ofBool, lane_int, exp2_int, ofBits_128]
    simp only [EReal.coe_lt_coe_iff]
    split_ifs <;> norm_num
  unfold rleast
  simp only [lanev]
  apply le_antisymm
  · rw [Finset.fold_min_le]
    right
    refine ⟨⟨k + 1, by omega⟩, Finset.mem_univ _, ?_⟩
    rw [EReal.coe_le_coe_iff, Int.cast_le]
    split_ifs with h
    · push_cast; omega
    · by_cases hk2 : k < 254
      · exfalso; apply h
        have := h2 hk2
        rwa [show (((k + 1 : ℕ) : ℤ) - 127) = (k : ℤ) - 126 by push_cast; ring]
      · omega
  · rw [Finset.le_fold_min]
    refine ⟨by rw [ofBits_inf]; exact le_top, fun x _ => ?_⟩
    rw [EReal.coe_le_coe_iff, Int.cast_le]
    split_ifs with h
    · have h3 : (2 : ℝ) ^ ((k : ℤ) - 127) < (2 : ℝ) ^ ((x.val : ℤ) - 127) := lt_of_le_of_lt h1 h
      rw [two_zpow_lt] at h3
      omega
    · omega

/-- A finite `t ≥ 0` lies in the binade of some exponent field `k ≤ 254`. -/
theorem exists_binade (t : ℝ) : ∃ k : ℕ, k ≤ 254 ∧ (1 ≤ k → (2 : ℝ) ^ ((k : ℤ) - 127) ≤ t) ∧
    (k < 254 → t < (2 : ℝ) ^ ((k : ℤ) - 126)) := by
  classical
  let P : ℕ → Prop := fun k => (2 : ℝ) ^ ((k : ℤ) - 127) ≤ t
  refine ⟨Nat.findGreatest P 254, Nat.findGreatest_le 254, fun h => ?_, fun h => ?_⟩
  · exact Nat.findGreatest_of_ne_zero (P := P) rfl (by omega)
  · have := Nat.findGreatest_is_greatest (P := P) (n := 254) (Nat.lt_succ_self _) h
    have h3 := not_le.1 this
    rwa [show (((Nat.findGreatest P 254).succ : ℤ) - 127) = ((Nat.findGreatest P 254 : ℕ) : ℤ) - 126 by push_cast; ring] at h3

theorem select_one {α : Type} (x y : α) : Scalar.select 1#1 x y = x := rfl
theorem select_zero {α : Type} (x y : α) : Scalar.select 0#1 x y = y := rfl

/-- For `a ≥ 0` the two exponents are one integer in `[-125, 128]`, the kernel's as a word and the reference's as a real. -/
theorem exp_agree (a : EReal) (ha : 0 ≤ a) : ∃ k : ℕ, 1 ≤ k ∧ k ≤ 254 ∧ kexp a = IntOp.subi (BitVec.ofNat 32 k) 126#32 ∧
    rexp a = ((((k : ℤ) - 126 : ℤ) : ℝ) : EReal) := by
  by_cases ha0 : a = 0
  · refine ⟨126, by omega, by omega, ?_, ?_⟩
    · unfold kexp
      rw [show Ideal.cmp .oeq a (Ideal.ofBits .f32 0x00000000#32) = 1#1 by simp [Ideal.cmp, ha0]]
      rw [show ∀ b : BitVec 1, IntOp.ori b 1#1 = 1#1 by decide, select_one]
      rfl
    · unfold rexp
      rw [show Ideal.cmp .oeq a (Ideal.ofBits .f32 0x00000000#32) = 1#1 by simp [Ideal.cmp, ha0], select_one]
      simp
  have hz : Ideal.cmp .oeq a (Ideal.ofBits .f32 0x00000000#32) = 0#1 := by simp [Ideal.cmp, ha0]
  obtain ⟨c, hc, hu⟩ := unit448_pos
  have hor : ∀ b : BitVec 1, IntOp.ori b 0#1 = b := by decide
  rcases eq_or_ne a ⊤ with rfl | hat
  · refine ⟨126, by omega, by omega, ?_, ?_⟩
    · unfold kexp
      rw [hz, hu, EReal.top_mul_coe_of_pos hc, kcount_top]; rfl
    · unfold rexp
      rw [hz, select_zero, hu, EReal.top_mul_coe_of_pos hc, ofBits_inf]
      rw [show Ideal.cmp .olt ⊤ ⊤ = 0#1 by simp [Ideal.cmp]]
      rw [show ∀ b : BitVec 1, IntOp.andi b 0#1 = 0#1 by decide, select_zero]
      simp
  obtain ⟨v, rfl⟩ : ∃ v : ℝ, a = (v : EReal) := by
    induction a using EReal.rec with
    | bot => simp at ha
    | coe v => exact ⟨v, rfl⟩
    | top => exact absurd rfl hat
  have hv : 0 ≤ v := EReal.coe_nonneg.1 ha
  have ht : 0 ≤ v * c := mul_nonneg hv hc.le
  obtain ⟨k, hk, h1, h2⟩ := exists_binade (v * c)
  have hcnt := kcount_binade (v * c) k hk ht h1 h2
  have hmul : (v : EReal) * unit448 = ((v * c : ℝ) : EReal) := by rw [hu, EReal.coe_mul]
  rcases Nat.eq_zero_or_pos k with rfl | hk1
  · refine ⟨126, by omega, by omega, ?_, ?_⟩
    · unfold kexp
      rw [hz, hmul, hcnt]; rfl
    · unfold rexp
      rw [hz, select_zero, hmul, ofBits_min_normal]
      have h3 : ¬ ((2 : ℝ) ^ (-126 : ℤ) ≤ v * c) := not_le.2 (by simpa using h2 (by omega))
      rw [show Ideal.cmp .oge ((v * c : ℝ) : EReal) (((2 : ℝ) ^ (-126 : ℤ) : ℝ) : EReal) = 0#1 by
        unfold Ideal.cmp; simp only [EReal.coe_le_coe_iff, h3]; rfl]
      rw [show ∀ b : BitVec 1, IntOp.andi 0#1 b = 0#1 by decide, select_zero]
      simp
  · refine ⟨k, hk1, hk, ?_, ?_⟩
    · unfold kexp
      rw [hz, hmul, hcnt, hor]
      have key : ∀ k : Fin 255, 1 ≤ k.val → IntOp.ori (IntOp.cmpi .eq (BitVec.ofNat 32 k.val) 0#32) (IntOp.cmpi .eq (BitVec.ofNat 32 k.val) 255#32) = 0#1 := by
        decide +kernel
      rw [key ⟨k, by omega⟩ hk1, select_zero]
    · unfold rexp
      rw [hz, select_zero, hmul, ofBits_min_normal, ofBits_inf]
      have h3 : (2 : ℝ) ^ (-126 : ℤ) ≤ v * c := ((two_zpow_le _ _).2 (by omega)).trans (h1 hk1)
      rw [show Ideal.cmp .oge ((v * c : ℝ) : EReal) (((2 : ℝ) ^ (-126 : ℤ) : ℝ) : EReal) = 1#1 by
        unfold Ideal.cmp; simp only [EReal.coe_le_coe_iff, h3]; rfl]
      rw [show Ideal.cmp .olt ((v * c : ℝ) : EReal) ⊤ = 1#1 by unfold Ideal.cmp; simp only [EReal.coe_lt_top]; rfl]
      rw [show IntOp.andi 1#1 1#1 = 1#1 by decide, select_one]
      exact rleast_binade _ k hk hk1 (h1 hk1) h2

/-! ### The scales -/

/-- The kernel's power of two at the biased exponent of an integer `n`. -/
theorem kword_eq (n : ℤ) (b : BitVec 32) (h : -127 ≤ n) (h2 : n ≤ 255) (hb : b = BitVec.ofInt 32 n) :
    kword b = if n ≤ 0 then 0 else if n < 255 then (((2 : ℝ) ^ (n - 127) : ℝ) : EReal) else ⊤ := by
  subst hb
  have key : ∀ m : Fin 383, Scalar.select (IntOp.cmpi .sle (BitVec.ofInt 32 ((m.val : ℤ) - 127)) 0#32) 0#32
      (IntOp.shli .vector (IntOp.minsi (BitVec.ofInt 32 ((m.val : ℤ) - 127)) 255#32) 23#32) =
      if (m.val : ℤ) - 127 ≤ 0 then 0#32 else IntOp.shli .vector (BitVec.ofNat 32 (m.val - 127)) 23#32 := by decide +kernel
  obtain ⟨m, hm⟩ : ∃ m : ℕ, n = (m : ℤ) - 127 := ⟨(n + 127).toNat, by omega⟩
  subst hm
  unfold kword
  rw [key ⟨m, by omega⟩]
  simp only
  split_ifs with h3 h4
  · simp
  · have := power_eq (m - 127) (by omega) (by omega)
    unfold power at this
    rw [this]; congr 2
    omega
  · rw [show m - 127 = 255 by omega]; exact power_255

/-- The reference's `ldexp(1, n)` at an integer `n ≤ 128`. -/
theorem rldexp_eq (n : ℤ) : rldexp (((n : ℝ)) : EReal) =
    if n < -126 then 0 else if 127 < n then ⊤ else (((2 : ℝ) ^ n : ℝ) : EReal) := by
  unfold rldexp Ideal.cmp
  simp only
  rw [select_ofBool, select_ofBool, exp2_int, ofBits_n126, ofBits_127, ofBits_inf]
  simp only [EReal.coe_lt_coe_iff, Ideal.ofBits_zero_f32]
  rw [show ((-126 : ℝ)) = ((-126 : ℤ) : ℝ) by norm_num, show ((127 : ℝ)) = ((127 : ℤ) : ℝ) by norm_num]
  simp only [Int.cast_lt]

/-- For `a ≥ 0` the kernel's scale is the reference's. -/
theorem scale_agree (a : EReal) (ha : 0 ≤ a) : kscale a = rscale a := by
  obtain ⟨k, h1, h2, e1, e2⟩ := exp_agree a ha
  have key : ∀ k : Fin 255, IntOp.addi 127#32 (IntOp.subi (BitVec.ofNat 32 k.val) 126#32) = BitVec.ofInt 32 ((k.val : ℤ) + 1) := by
    decide +kernel
  unfold kscale rscale
  rw [e1, e2, kword_eq ((k : ℤ) + 1) _ (by omega) (by omega) (key ⟨k, by omega⟩), rldexp_eq]
  rw [if_neg (by omega), if_neg (by omega : ¬ ((k : ℤ) - 126 < -126))]
  by_cases hk : k = 254
  · rw [if_neg (by omega), if_pos (by omega)]
  · rw [if_pos (by omega), if_neg (by omega)]; congr 2; ring

/-- For `a ≥ 0` the kernel's inverse scale is the reference's. -/
theorem inv_agree (a : EReal) (ha : 0 ≤ a) : kinv a = rinv a := by
  obtain ⟨k, h1, h2, e1, e2⟩ := exp_agree a ha
  have key : ∀ k : Fin 255, IntOp.addi 127#32 (IntOp.subi 0#32 (IntOp.subi (BitVec.ofNat 32 k.val) 126#32)) =
      BitVec.ofInt 32 (253 - (k.val : ℤ)) := by decide +kernel
  unfold kinv rinv
  rw [e1, e2, kword_eq (253 - (k : ℤ)) _ (by omega) (by omega) (key ⟨k, by omega⟩), Ideal.ofBits_zero_f32, zero_sub,
    ← EReal.coe_neg, ← Int.cast_neg, rldexp_eq]
  by_cases hk : 253 ≤ k
  · rw [if_pos (by omega), if_pos (by omega)]
  · rw [if_neg (by omega), if_pos (by omega), if_neg (by omega), if_neg (by omega)]; congr 2; ring

end Cert.Scale
-- ==== Proof.Ops.lean ====
/-
  THE OPERATIONS OF THE TWO BODIES AT AN ELEMENT, for any number of rows: the row maximum, the count of the powers at or
  below, the least power above, the gated product. Both bodies are these at their own number of rows.
-/
module

public import proofs.«01_k».proof.Proof.Scale
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 16384

noncomputable section

namespace Cert.Ops

open Idealize.ShloMosaic Idealize.ShloMosaic.ValueIdx Cert.Scale
open scoped BigOperators

/-- The shape of `M` rows of `N` elements. -/
abbrev Mat (M N : ℕ) : Shape := ⟨2, ![M, N]⟩

variable {M N : ℕ}

/-- A column broadcast along the rows is, at `(r, c)`, the column at `r`. -/
theorem column_apply {α : Type} (x : (Mat M 1).Idx → α) (h : (Mat M 1).Broadcasts (Mat M N)) (r : Fin M) (c : Fin N) :
    broadcastTo (Mat M N) x h (ix2 r c) = x (ix2 r 0) := by
  refine broadcastTo_apply x h (ix2 r c) (ix2 r 0) fun a => ?_
  match a with
  | 0 =>
    show r.val = if M = 1 then 0 else r.val
    have := r.isLt
    split_ifs <;> omega
  | 1 => rfl

/-- The largest magnitude of a row. -/
def amax (row : Fin N → EReal) : EReal :=
  (Finset.univ : Finset (Fin N)).fold max (Ideal.ofBits .f32 0xFF800000#32) fun x => max (row x) (-(row x))

/-- A row's largest magnitude is not negative. -/
theorem amax_nonneg (row : Fin N → EReal) (c : Fin N) : 0 ≤ amax row := by
  unfold amax
  rw [Finset.le_fold_max]
  refine Or.inr ⟨c, Finset.mem_univ _, ?_⟩
  rcases le_total 0 (row c) with h | h
  · exact h.trans (le_max_left _ _)
  · exact (show 0 ≤ -(row c) by rw [EReal.le_neg]; simpa using h).trans (le_max_right _ _)

theorem lift_eq (h : (Mat M N).Reduces [1] ⟨1, ![M]⟩) (r : Fin M) (k : Fin N) : h.lift (ix1 r) k = ix2 r k := by
  rw [eq_ix2 (h.lift (ix1 r) k)]
  congr 1 <;> exact Fin.ext (by rw [h.lift_val]; rfl)

/-- The column of the rows' largest magnitudes. -/
theorem rowMax_apply (v : FVec Ideal (Mat M N) .f32) (h : (Mat M N).Reduces [1] ⟨1, ![M]⟩) (hφ : FKind.Formats .f32)
    (hacc : (0xFF800000#32 : BitVec 32) = FKind.maximumf.neutral .f32 hφ) (hc : (⟨1, ![M]⟩ : Shape).ShapeCasts (Mat M 1)) (r : Fin M) :
    shapeCast (Mat M 1) (multiReduction .maximumf [1] ⟨1, ![M]⟩ (absf v) 0xFF800000#32 h hφ hacc) hc (ix2 r 0)
      = amax fun c => v (ix2 r c) := by
  rw [shapeCast_a_a1_apply]
  refine (Ideal.multiReduction_maximumf_single (a := (1 : Fin (Mat M N).rank)) (absf v) _ h hφ hacc (ix1 r)).trans ?_
  show (Finset.univ : Finset (Fin N)).fold max _ _ = _
  unfold amax
  congr 1
  funext k
  show max (v (h.lift (ix1 r) k)) (-(v (h.lift (ix1 r) k))) = _
  rw [lift_eq h r k]

/-- The column of the counts of the powers at or below the rows' `|t|`. -/
theorem kcount_apply (t : FVec Ideal (Mat M 1) .f32) (hio : (Mat 1 255).Iotas .tc 32 [1]) (hb1 : (Mat M 1).Broadcasts (Mat M 255))
    (hb2 : (Mat 1 255).Broadcasts (Mat M 255)) (hlt : 1 < 32) (hr : (Mat M 255).Reduces [1] ⟨1, ![M]⟩)
    (hn : (0#32 : BitVec 32) = IKind.add.neutral) (hc : (⟨1, ![M]⟩ : Shape).ShapeCasts (Mat M 1)) (r : Fin M) :
    shapeCast (Mat M 1) (multiReductionI .add [1] ⟨1, ![M]⟩
      (extui 32 (cmpf .oge (broadcastTo (Mat M 255) (absf t) hb1)
        (broadcastTo (Mat M 255) (bitcastToFloat .f32 (shli (addi (iota .tc (Mat 1 255) 32 [1] hio) (broadcast (Mat 1 255) 1#32))
          (broadcast (Mat 1 255) 23#32))) hb2)) hlt) 0#32 hr hn) hc (ix2 r 0)
      = kcount (t (ix2 r 0)) := by
  rw [shapeCast_a_a1_apply, multiReductionI_eq_fold]
  refine (hr.fold_filter_drop_single _ _ _ (ix1 r)).trans ?_
  unfold kcount
  refine congrArg (fun f : Fin 255 → BitVec 32 => (Finset.univ : Finset (Fin 255)).fold IntOp.addi 0#32 f) (funext fun (k : Fin 255) => ?_)
  show (Ideal.cmp .oge (broadcastTo (Mat M 255) (absf t) hb1 (hr.lift (ix1 r) k))
    (broadcastTo (Mat M 255) (bitcastToFloat (F := Ideal) .f32 (shli (addi (iota .tc (Mat 1 255) 32 [1] hio) (broadcast (Mat 1 255) 1#32))
          (broadcast (Mat 1 255) 23#32))) hb2 (hr.lift (ix1 r) k))).setWidth 32 = _
  rw [lift_eq hr r k, column_apply, broadcastTo_1b_ab_apply]
  show (Ideal.cmp .oge (max (t (ix2 r 0)) (-(t (ix2 r 0))))
    (power (IntOp.addi (BitVec.ofNat 32 (0 * 255 + k.val)) 1#32))).setWidth 32 = _
  rw [Nat.zero_mul, Nat.zero_add]

/-- The column of the least exponents whose powers are above the rows' `t`. -/
theorem rleast_apply (t : FVec Ideal (Mat M 1) .f32) (hio : (Mat 1 256).Iotas .tc 32 [1]) (hb1 : (Mat M 1).Broadcasts (Mat M 256))
    (hb2 : (Mat 1 256).Broadcasts (Mat M 256)) (hs : (Mat 1 256).ShapeCasts (Mat 1 256)) (hr : (Mat M 256).Reduces [1] ⟨1, ![M]⟩) (hφ : FKind.Formats .f32)
    (hacc : (0x7F800000#32 : BitVec 32) = FKind.minimumf.neutral .f32 hφ) (hc : (⟨1, ![M]⟩ : Shape).ShapeCasts (Mat M 1)) (r : Fin M) :
    shapeCast (Mat M 1) (multiReduction .minimumf [1] ⟨1, ![M]⟩
      (select (cmpf .olt (broadcastTo (Mat M 256) t hb1)
          (broadcastTo (Mat M 256) (exp2 (sitofp (F := Ideal) .f32 (subi (iota .tc (Mat 1 256) 32 [1] hio) (broadcast (Mat 1 256) 127#32)))) hb2))
        (broadcastTo (Mat M 256) (shapeCast (Mat 1 256) (sitofp (F := Ideal) .f32 (subi (iota .tc (Mat 1 256) 32 [1] hio) (broadcast (Mat 1 256) 127#32))) hs) hb2)
        (broadcast (Mat M 256) (Scalar.ofBits (F := Ideal) .f32 0x43000000#32))) 0x7F800000#32 hr hφ hacc) hc (ix2 r 0)
      = rleast (t (ix2 r 0)) := by
  rw [shapeCast_a_a1_apply, multiReduction_minimumf_eq_fold, shapeCast_self]
  refine (hr.fold_filter_drop_single _ _ _ (ix1 r)).trans ?_
  unfold rleast
  refine congrArg (fun f : Fin 256 → EReal => (Finset.univ : Finset (Fin 256)).fold min (Ideal.ofBits .f32 0x7F800000#32) f) (funext fun (k : Fin 256) => ?_)
  show Scalar.select (Ideal.cmp .olt (broadcastTo (Mat M 256) t hb1 (hr.lift (ix1 r) k))
      (broadcastTo (Mat M 256) (exp2 (sitofp (F := Ideal) .f32 (subi (iota .tc (Mat 1 256) 32 [1] hio) (broadcast (Mat 1 256) 127#32)))) hb2 (hr.lift (ix1 r) k)))
      (broadcastTo (Mat M 256) (sitofp (F := Ideal) .f32 (subi (iota .tc (Mat 1 256) 32 [1] hio) (broadcast (Mat 1 256) 127#32))) hb2 (hr.lift (ix1 r) k))
      (Ideal.ofBits .f32 0x43000000#32) = _
  rw [lift_eq hr r k, column_apply, broadcastTo_1b_ab_apply, broadcastTo_1b_ab_apply]
  have e : (sitofp (F := Ideal) .f32 (subi (iota .tc (Mat 1 256) 32 [1] hio) (broadcast (Mat 1 256) 127#32))) (ix2 0 k) = lane k := by
    show (((IntOp.subi (BitVec.ofNat 32 (0 * 256 + k.val)) 127#32).toInt : ℝ) : EReal) = _
    rw [Nat.zero_mul, Nat.zero_add]; rfl
  show Scalar.select (Ideal.cmp .olt _ (Ideal.exp2 ((sitofp (F := Ideal) .f32 (subi (iota .tc (Mat 1 256) 32 [1] hio) (broadcast (Mat 1 256) 127#32))) (ix2 0 k)))) _ _ = _
  rw [e]

/-- The powers of two of a column of exponents, as the reference's `ldexp(1, e)` takes them. -/
theorem ldexp_apply (e : FVec Ideal (Mat M 1) .f32) (j : (Mat M 1).Idx) :
    select (cmpf .olt e (broadcast (Mat M 1) (Scalar.ofBits (F := Ideal) .f32 0xC2FC0000#32)))
      (broadcast (Mat M 1) (Scalar.ofBits (F := Ideal) .f32 0x00000000#32))
      (select (cmpf .ogt e (broadcast (Mat M 1) (Scalar.ofBits (F := Ideal) .f32 0x42FE0000#32)))
        (broadcast (Mat M 1) (Scalar.ofBits (F := Ideal) .f32 0x7F800000#32)) (exp2 e)) j = rldexp (e j) := rfl

/-- The value `v` clipped to `[-448, 448]` after the multiplication by the inverse scale `i`. -/
def clip (v i : EReal) : EReal := min (Ideal.ofBits .f32 0x43E00000#32) (max (Ideal.ofBits .f32 0xC3E00000#32) (v * i))

/-- The codes are the values times the row's inverse scale, clipped. -/
theorem clip_apply (v : FVec Ideal (Mat M N) .f32) (i : FVec Ideal (Mat M 1) .f32) (hb : (Mat M 1).Broadcasts (Mat M N))
    (hlt : FTy.fp8e4m3.bits < FTy.f32.bits) (r : Fin M) (c : Fin N) :
    truncf .fp8e4m3 (minimumf (broadcast (Mat M N) (Scalar.ofBits (F := Ideal) .f32 0x43E00000#32))
      (maximumf (broadcast (Mat M N) (Scalar.ofBits (F := Ideal) .f32 0xC3E00000#32)) (mulf v (broadcastTo (Mat M N) i hb)))) hlt (ix2 r c)
      = clip (v (ix2 r c)) (i (ix2 r 0)) := by
  rw [← column_apply i hb r c]; rfl

/-- Column `c` of the product of a row of codes with the weights, rescaled by the row's scale and the weight's. -/
def pre {K O : ℕ} (code : Fin K → EReal) (s : EReal) (w : Fin K → Fin O → EReal) (ws : Fin O → EReal) (c : Fin O) : EReal :=
  (Ideal.ofBits .f32 0x00000000#32 + ∑ x, code x * w x c) * s * ws c

/-- Column `k` of the gated row: `silu` of the first half's column times the second half's. -/
def gated (code : Fin 7168 → EReal) (s : EReal) (w : Fin 7168 → Fin 4608 → EReal) (ws : Fin 4608 → EReal) (k : Fin 2304) : EReal :=
  pre code s w ws ⟨0 + k.val, by omega⟩ * Ideal.logistic (pre code s w ws ⟨0 + k.val, by omega⟩) * pre code s w ws ⟨2304 + k.val, by omega⟩

/-- The rescaled product at an element. -/
theorem pre_apply {K O : ℕ} (code : FVec Ideal (Mat M K) .fp8e4m3) (s : FVec Ideal (Mat M 1) .f32) (w : FVec Ideal (Mat K O) .fp8e4m3)
    (ws : FVec Ideal (Mat 1 O) .f32) (hb1 : (Mat M 1).Broadcasts (Mat M O)) (hb2 : (Mat 1 O).Broadcasts (Mat M O))
    (hs : (Mat 1 O).ShapeCasts (Mat 1 O)) (r : Fin M) (c : Fin O) :
    mulf (mulf (matmul (DotDims.plain M K O) none code w (constant (F := Ideal) (Mat M O) .f32 0x00000000#32)) (broadcastTo (Mat M O) s hb1))
      (broadcastTo (Mat M O) (shapeCast (Mat 1 O) ws hs) hb2) (ix2 r c)
      = pre (fun x => code (ix2 r x)) (s (ix2 r 0)) (fun x c => w (ix2 x c)) (fun c => ws (ix2 0 c)) c := by
  rw [shapeCast_self]
  show matmul (DotDims.plain M K O) none code w (constant (F := Ideal) (Mat M O) .f32 0x00000000#32) (ix2 r c)
    * broadcastTo (Mat M O) s hb1 (ix2 r c) * broadcastTo (Mat M O) ws hb2 (ix2 r c) = _
  rw [column_apply, broadcastTo_1b_ab_apply]
  refine congrArg (fun z => z * s (ix2 r 0) * ws (ix2 0 c)) ?_
  exact Ideal.matmul_plain_apply ..

/-- The gated product at an element. -/
theorem gated_apply (code : FVec Ideal (Mat M 7168) .fp8e4m3) (s : FVec Ideal (Mat M 1) .f32) (w : FVec Ideal (Mat 7168 4608) .fp8e4m3)
    (ws : FVec Ideal (Mat 1 4608) .f32) (hb1 : (Mat M 1).Broadcasts (Mat M 4608)) (hb2 : (Mat 1 4608).Broadcasts (Mat M 4608))
    (hs : (Mat 1 4608).ShapeCasts (Mat 1 4608)) (p : FVec Ideal (Mat M 4608) .f32)
    (hp : p = mulf (mulf (matmul (DotDims.plain M 7168 4608) none code w (constant (F := Ideal) (Mat M 4608) .f32 0x00000000#32)) (broadcastTo (Mat M 4608) s hb1))
      (broadcastTo (Mat M 4608) (shapeCast (Mat 1 4608) ws hs) hb2))
    (h0 : (Mat M 4608).Slices ![0, 0] (Mat M 2304)) (h1 : (Mat M 4608).Slices ![0, 2304] (Mat M 2304)) (r : Fin M) (k : Fin 2304) :
    mulf (mulf (extractStridedSlice (Mat M 2304) ![0, 0] p h0) (logistic (extractStridedSlice (Mat M 2304) ![0, 0] p h0)))
      (extractStridedSlice (Mat M 2304) ![0, 2304] p h1) (ix2 r k)
      = gated (fun x => code (ix2 r x)) (s (ix2 r 0)) (fun x c => w (ix2 x c)) (fun c => ws (ix2 0 c)) k := by
  have hpre := fun c => (congrFun hp (ix2 r c)).trans (pre_apply code s w ws hb1 hb2 hs r c)
  show extractStridedSlice (Mat M 2304) ![0, 0] p h0 (ix2 r k) * Ideal.logistic (extractStridedSlice (Mat M 2304) ![0, 0] p h0 (ix2 r k))
    * extractStridedSlice (Mat M 2304) ![0, 2304] p h1 (ix2 r k) = _
  rw [slice2_axis1_apply 0 p h0 r k ⟨0 + k.val, by omega⟩ rfl, slice2_axis1_apply 2304 p h1 r k ⟨2304 + k.val, by omega⟩ rfl, hpre, hpre]
  rfl

end Cert.Ops
-- ==== Proof.Spec.lean ====
/-
  THE RESULTS OF ONE ROW: the scale and the codes of a row, the gated row made from them, and the scale and the codes of
  the gated row. Each result of both programs is one of these at one row of the input.
-/
module

public import proofs.«01_k».proof.Proof.Ops

@[expose] public section

noncomputable section

namespace Cert.Spec

open Idealize.ShloMosaic Cert.Scale Cert.Ops

variable {N : ℕ}

/-- The scale of a row. -/
def scale (row : Fin N → EReal) : EReal := rscale (amax row)

/-- The codes of a row. -/
def code (row : Fin N → EReal) (c : Fin N) : EReal := clip (row c) (rinv (amax row))

/-- The gated row of a row of `x`. -/
def gatedRow (row : Fin 7168 → EReal) (w : Fin 7168 → Fin 4608 → EReal) (ws : Fin 4608 → EReal) : Fin 2304 → EReal :=
  gated (code row) (scale row) w ws

/-- The kernel's scale of a row is the row's scale. -/
theorem kscale_eq (row : Fin N → EReal) (c : Fin N) : kscale (amax row) = scale row := scale_agree _ (amax_nonneg row c)

/-- The kernel's inverse scale of a row is the reference's. -/
theorem kinv_eq (row : Fin N → EReal) (c : Fin N) : kinv (amax row) = rinv (amax row) := inv_agree _ (amax_nonneg row c)

end Cert.Spec
-- ==== Proof.KernelRows.lean ====
/-
  THE KERNEL'S BODY BY ROWS: each value the body stores is, at a row of its block, that row's scale or codes, or those of
  the row's gated row.
-/
module

public import proofs.«01_k».proof.Proof.Spec
public import proofs.«01_k».proof.Proof.Gen.KernelIdeal.Skeleton

@[expose] public section

set_option maxRecDepth 16384

noncomputable section

namespace Cert.KernelRows

open Idealize.ShloMosaic Idealize.ShloMosaic.ValueIdx Cert.Scale Cert.Ops Cert.Spec Cert.KernelIdeal Cert.KernelIdeal.Gen

/-- Row `r` of a block of `x`. -/
def row (x : Vec Ideal S256x7168 .bf16) (r : Fin 256) : Fin 7168 → EReal := fun c => x (ix2 r c)

/-- The weights by row and column. -/
def wts (w : Vec Ideal S7168x4608 .fp8e4m3) : Fin 7168 → Fin 4608 → EReal := fun a c => w (ix2 a c)

/-- The weights' scales by column. -/
def wsc (ws : Vec Ideal S1x4608 .f32) : Fin 4608 → EReal := fun c => ws (ix2 0 c)

/-- The kernel's exponents of a column of largest magnitudes. -/
theorem pay12_apply (a : FVec Ideal S256x1 .f32) (r : Fin 256) : k0_pay12 (F := Ideal) a (ix2 r 0) = kexp (a (ix2 r 0)) := by
  have h := kcount_apply (M := 256) (mulf a (broadcast S256x1 (Scalar.ofBits (F := Ideal) .f32 0x3B124925#32)))
    iota_S1x255_d1_w32 broadcasts_S256x1_S256x255 broadcasts_S1x255_S256x255 natLt_1_32 reduces_S256x255_S256 rfl shapeCasts_S256_S256x1 r
  change _ = kcount (a (ix2 r 0) * unit448) at h
  unfold kexp
  rw [← h]
  rfl

/-- A block's values in f32. -/
theorem pay2_eq (x : Vec Ideal S256x7168 .bf16) : k0_pay2 (F := Ideal) x = x := by
  unfold k0_pay2
  rw [shapeCast_self]; rfl

/-- The column of the largest magnitudes of a block's rows. -/
def top (x : Vec Ideal S256x7168 .bf16) : FVec Ideal S256x1 .f32 :=
  shapeCast S256x1 (multiReduction .maximumf [1] S256 (absf (k0_pay2 (F := Ideal) x)) 0xFF800000#32 reduces_S256x7168_S256 (.inl rfl) rfl) shapeCasts_S256_S256x1

theorem top_apply (x : Vec Ideal S256x7168 .bf16) (r : Fin 256) : top x (ix2 r 0) = amax (row x r) := by
  unfold top
  rw [pay2_eq]
  exact rowMax_apply (M := 256) (N := 7168) x reduces_S256x7168_S256 (.inl rfl) rfl shapeCasts_S256_S256x1 r

theorem pay3_eq (x : Vec Ideal S256x7168 .bf16) : k0_pay3 (F := Ideal) x = k0_pay12 (F := Ideal) (top x) := rfl

/-- The scales the kernel stores for `x`. -/
theorem scale_apply (x : Vec Ideal S256x7168 .bf16) (r : Fin 256) :
    k0_pay8 (F := Ideal) (k0_pay5 (F := Ideal) x) (k0_pay6 (F := Ideal) x) k0_pay7 (ix2 r 0) = scale (row x r) := by
  rw [← kscale_eq (row x r) 0, ← top_apply]
  show kword (IntOp.addi 127#32 (k0_pay3 (F := Ideal) x (ix2 r 0))) = kword _
  rw [pay3_eq, pay12_apply]

/-- The codes the kernel stores for `x`. -/
theorem code_apply (x : Vec Ideal S256x7168 .bf16) (r : Fin 256) (c : Fin 7168) :
    k0_pay9 (F := Ideal) (k0_pay2 (F := Ideal) x) (k0_pay3 (F := Ideal) x) (ix2 r c) = code (row x r) c := by
  unfold k0_pay9
  refine (clip_apply (M := 256) (N := 7168) _ _ _ _ r c).trans ?_
  unfold code
  rw [← kinv_eq (row x r) 0, ← top_apply, pay2_eq]
  show clip _ (kword (IntOp.addi 127#32 (IntOp.subi 0#32 (k0_pay3 (F := Ideal) x (ix2 r 0))))) = clip _ (kword _)
  rw [pay3_eq, pay12_apply]
  rfl

/-- The gated rows the kernel computes. -/
theorem hidden_apply (x : Vec Ideal S256x7168 .bf16) (w : Vec Ideal S7168x4608 .fp8e4m3) (ws : Vec Ideal S1x4608 .f32) (r : Fin 256) (k : Fin 2304) :
    k0_pay10 (F := Ideal) (k0_pay2 (F := Ideal) x) (k0_pay3 (F := Ideal) x) (k0_pay5 (F := Ideal) x) (k0_pay6 (F := Ideal) x) k0_pay7 w ws (ix2 r k)
      = gatedRow (row x r) (wts w) (wsc ws) k := by
  unfold k0_pay10
  refine (gated_apply (M := 256) (k0_pay9 (F := Ideal) (k0_pay2 (F := Ideal) x) (k0_pay3 (F := Ideal) x))
    (k0_pay8 (F := Ideal) (k0_pay5 (F := Ideal) x) (k0_pay6 (F := Ideal) x) k0_pay7) w ws
    broadcasts_S256x1_S256x4608 broadcasts_S1x4608_S256x4608 shapeCasts_S1x4608_S1x4608 _ rfl
    slices_S256x4608_o0_0_S256x2304 slices_S256x4608_o0_2304_S256x2304 r k).trans ?_
  unfold gatedRow
  rw [scale_apply, show (fun c => k0_pay9 (F := Ideal) (k0_pay2 (F := Ideal) x) (k0_pay3 (F := Ideal) x) (ix2 r c)) = code (row x r) from
    funext fun c => code_apply x r c]
  rfl

/-- The column of the largest magnitudes of the gated rows. -/
theorem top_hidden (x : Vec Ideal S256x7168 .bf16) (w : Vec Ideal S7168x4608 .fp8e4m3) (ws : Vec Ideal S1x4608 .f32) (r : Fin 256) :
    k0_pay11 (F := Ideal) (k0_pay2 (F := Ideal) x) (k0_pay3 (F := Ideal) x) (k0_pay5 (F := Ideal) x) (k0_pay6 (F := Ideal) x) k0_pay7 w ws (ix2 r 0)
      = amax (gatedRow (row x r) (wts w) (wsc ws)) := by
  unfold k0_pay11
  refine (rowMax_apply (M := 256) (N := 2304) _ reduces_S256x2304_S256 (.inl rfl) rfl shapeCasts_S256_S256x1 r).trans ?_
  exact congrArg amax (funext fun k => hidden_apply x w ws r k)

/-- The scales the kernel stores for the gated rows, from their column of largest magnitudes. -/
theorem pay13_apply (a : FVec Ideal S256x1 .f32) (r : Fin 256) : k0_pay13 (F := Ideal) a (ix2 r 0) = kscale (a (ix2 r 0)) := by
  show kword (IntOp.addi 127#32 (k0_pay12 (F := Ideal) a (ix2 r 0))) = kword _
  rw [pay12_apply]

/-- The codes the kernel stores for the gated rows, from them and their column of largest magnitudes. -/
theorem pay1_apply (h : FVec Ideal S256x2304 .f32) (a : FVec Ideal S256x1 .f32) (r : Fin 256) (k : Fin 2304) :
    k0_pay1 (F := Ideal) h (k0_pay14 (F := Ideal) a) k0_pay15 (ix2 r k) = clip (h (ix2 r k)) (kinv (a (ix2 r 0))) := by
  unfold k0_pay1
  refine (clip_apply (M := 256) (N := 2304) _ _ _ _ r k).trans ?_
  show clip _ (kword (IntOp.addi 127#32 (IntOp.subi 0#32 (k0_pay12 (F := Ideal) a (ix2 r 0))))) = clip _ (kword _)
  rw [pay12_apply]

/-- The scales the kernel stores for the gated rows. -/
theorem hscale_apply (x : Vec Ideal S256x7168 .bf16) (w : Vec Ideal S7168x4608 .fp8e4m3) (ws : Vec Ideal S1x4608 .f32) (r : Fin 256) :
    k0_pay13 (F := Ideal) (k0_pay11 (F := Ideal) (k0_pay2 (F := Ideal) x) (k0_pay3 (F := Ideal) x) (k0_pay5 (F := Ideal) x) (k0_pay6 (F := Ideal) x) k0_pay7 w ws)
      (ix2 r 0) = scale (gatedRow (row x r) (wts w) (wsc ws)) := by
  rw [pay13_apply, top_hidden, kscale_eq _ 0]

/-- The codes the kernel stores for the gated rows. -/
theorem hcode_apply (x : Vec Ideal S256x7168 .bf16) (w : Vec Ideal S7168x4608 .fp8e4m3) (ws : Vec Ideal S1x4608 .f32) (r : Fin 256) (k : Fin 2304) :
    k0_pay1 (F := Ideal) (k0_pay10 (F := Ideal) (k0_pay2 (F := Ideal) x) (k0_pay3 (F := Ideal) x) (k0_pay5 (F := Ideal) x) (k0_pay6 (F := Ideal) x) k0_pay7 w ws)
      (k0_pay14 (F := Ideal) (k0_pay11 (F := Ideal) (k0_pay2 (F := Ideal) x) (k0_pay3 (F := Ideal) x) (k0_pay5 (F := Ideal) x) (k0_pay6 (F := Ideal) x) k0_pay7 w ws))
      k0_pay15 (ix2 r k) = code (gatedRow (row x r) (wts w) (wsc ws)) k := by
  rw [pay1_apply, top_hidden, kinv_eq _ 0, hidden_apply]; rfl

end Cert.KernelRows
-- ==== Proof.KernelBlocks.lean ====
/-
  What the kernel's run leaves in its four result arrays, block by block: each grid point writes back the body's result
  for the blocks it was handed, and no two points' blocks meet.
-/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 36 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S9216x1.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 36 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S9216x2304.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 36 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S9216x7168.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t)) := by
  show (cfg0.win 6).cut (grid0.coords t) ((dats m 0 c).after 6 t) = _
  rw [after0_6]

/-- The index map sends distinct grid points to distinct block indices (decided over the 36 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S9216x1.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v2_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_3) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 3 cfg0.N
      ∧ r.2.mem ((c : Thread nD τ).loc main_v2_1) = (dats m 0 c).arrAt 4 cfg0.N
      ∧ r.2.mem ((c : Thread nD τ).loc main_v2_2) = (dats m 0 c).arrAt 5 cfg0.N
      ∧ r.2.mem ((c : Thread nD τ).loc main_v2_3) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      post6 m r h c,
      kept_main_arg0 m r h c,
      kept_main_arg1 m r h c,
      kept_main_arg2 m r h c⟩)
    (run_main m ρ)

end Cert.KernelIdeal.Value

end

end
-- ==== Proof.KernelArrays.lean ====
/-
  THE KERNEL'S RESULT ARRAYS BY ROWS: row `256 t + r` of each result is what grid point `t` writes for row `r` of the
  block it is handed, and the blocks cover every row.
-/
module

public import proofs.«01_k».proof.Proof.KernelRows
public import proofs.«01_k».proof.Proof.KernelBlocks
public import Idealize.ShloMosaic.Lib.Pipeline.ValueKit.Geometry

@[expose] public section

set_option maxRecDepth 16384

noncomputable section

namespace Cert.KernelArrays

open Idealize.ShloMosaic Idealize.ShloMosaic.TcCoe Idealize.SL.Sem
open Idealize.ShloMosaic.ValueIdx Cert.Scale Cert.Ops Cert.Spec Cert.KernelIdeal Cert.KernelIdeal.Gen
open Cert.KernelIdeal.Value Cert.KernelRows

variable (m : (ℓ : Loc nD τ sig) → Buf (Elt Ideal) ℓ)

/-- The two zero offsets of a whole-array access. -/
theorem hz : (![0, 0] : Fin 2 → Nat) = fun _ => 0 := funext fun a => by fin_cases a <;> rfl

/-- Row `r` of point `t`'s block, as a row of the array. -/
def at' (t : Fin cfg0.N) (r : Fin 256) : Fin 9216 :=
  ⟨t.val * 256 + r.val, by have := lt_of_lt_of_eq t.isLt Gen.N_0; have := r.isLt; omega⟩

/-- The starts of the moving windows' blocks: row `256 t`, column 0. -/
theorem start0 : ∀ t : Fin grid0.N, win0_0.index t 0 * win0_0.size 0 = t.val * 256 ∧ win0_0.index t 1 * win0_0.size 1 = 0 := by
  decide +kernel
theorem start3 : ∀ t : Fin grid0.N, win0_3.index t 0 * win0_3.size 0 = t.val * 256 ∧ win0_3.index t 1 * win0_3.size 1 = 0 := by
  decide +kernel
theorem start4 : ∀ t : Fin grid0.N, win0_4.index t 0 * win0_4.size 0 = t.val * 256 ∧ win0_4.index t 1 * win0_4.size 1 = 0 := by
  decide +kernel
theorem start5 : ∀ t : Fin grid0.N, win0_5.index t 0 * win0_5.size 0 = t.val * 256 ∧ win0_5.index t 1 * win0_5.size 1 = 0 := by
  decide +kernel
theorem start6 : ∀ t : Fin grid0.N, win0_6.index t 0 * win0_6.size 0 = t.val * 256 ∧ win0_6.index t 1 * win0_6.size 1 = 0 := by
  decide +kernel
/-- The resting windows' blocks start at the arrays' origins. -/
theorem start1 : ∀ t : Fin grid0.N, win0_1.index t 0 * win0_1.size 0 = 0 ∧ win0_1.index t 1 * win0_1.size 1 = 0 := by
  decide +kernel
theorem start2 : ∀ t : Fin grid0.N, win0_2.index t 0 * win0_2.size 0 = 0 ∧ win0_2.index t 1 * win0_2.size 1 = 0 := by
  decide +kernel

/-- Point `t`'s block of `x`, read at row `r`, is row `256 t + r` of `x`. -/
theorem read0 (f : Vec Ideal S9216x7168 .bf16) (t : Fin cfg0.N) (r : Fin 256) (k : Fin 7168) :
    ((cfg0.win 0).blk t).view.read (Elt Ideal) f (ix2 r k) = f (ix2 (at' t r) k) := by
  show f (((cfg0.win 0).blk t).view.emb (ix2 r k)) = _
  refine congrArg f (funext fun a => Fin.ext ?_)
  refine (ValueKit.view_emb_slice_whole_unit_val _ _ _ _ _ _).trans ?_
  fin_cases a
  · exact congrArg (· + r.val) (start0 t).1
  · exact (congrArg (· + k.val) (start0 t).2).trans (Nat.zero_add _)

/-- Every point's block of the weights is the whole array. -/
theorem read1 (f : Vec Ideal S7168x4608 .fp8e4m3) (t : Fin cfg0.N) (r : Fin 7168) (k : Fin 4608) :
    ((cfg0.win 1).blk t).view.read (Elt Ideal) f (ix2 r k) = f (ix2 r k) := by
  show f (((cfg0.win 1).blk t).view.emb (ix2 r k)) = _
  refine congrArg f (funext fun a => Fin.ext ?_)
  refine (ValueKit.view_emb_slice_whole_unit_val _ _ _ _ _ _).trans ?_
  fin_cases a
  · exact (congrArg (· + r.val) (start1 t).1).trans (Nat.zero_add _)
  · exact (congrArg (· + k.val) (start1 t).2).trans (Nat.zero_add _)

/-- Every point's block of the weights' scales is the whole array. -/
theorem read2 (f : Vec Ideal S1x4608 .f32) (t : Fin cfg0.N) (r : Fin 1) (k : Fin 4608) :
    ((cfg0.win 2).blk t).view.read (Elt Ideal) f (ix2 r k) = f (ix2 r k) := by
  show f (((cfg0.win 2).blk t).view.emb (ix2 r k)) = _
  refine congrArg f (funext fun a => Fin.ext ?_)
  refine (ValueKit.view_emb_slice_whole_unit_val _ _ _ _ _ _).trans ?_
  fin_cases a
  · exact (congrArg (· + r.val) (start2 t).1).trans (Nat.zero_add _)
  · exact (congrArg (· + k.val) (start2 t).2).trans (Nat.zero_add _)

/-- Point `t`'s block of the gated rows' scales starts at row `256 t`. -/
theorem read3 (f : Vec Ideal S9216x1 .f32) (t : Fin cfg0.N) (r : Fin 256) (k : Fin 1) :
    ((cfg0.win 3).blk t).view.read (Elt Ideal) f (ix2 r k) = f (ix2 (at' t r) k) := by
  show f (((cfg0.win 3).blk t).view.emb (ix2 r k)) = _
  refine congrArg f (funext fun a => Fin.ext ?_)
  refine (ValueKit.view_emb_slice_whole_unit_val _ _ _ _ _ _).trans ?_
  fin_cases a
  · exact congrArg (· + r.val) (start3 t).1
  · exact (congrArg (· + k.val) (start3 t).2).trans (Nat.zero_add _)

/-- Point `t`'s block of the gated rows' codes starts at row `256 t`. -/
theorem read4 (f : Vec Ideal S9216x2304 .fp8e4m3) (t : Fin cfg0.N) (r : Fin 256) (k : Fin 2304) :
    ((cfg0.win 4).blk t).view.read (Elt Ideal) f (ix2 r k) = f (ix2 (at' t r) k) := by
  show f (((cfg0.win 4).blk t).view.emb (ix2 r k)) = _
  refine congrArg f (funext fun a => Fin.ext ?_)
  refine (ValueKit.view_emb_slice_whole_unit_val _ _ _ _ _ _).trans ?_
  fin_cases a
  · exact congrArg (· + r.val) (start4 t).1
  · exact (congrArg (· + k.val) (start4 t).2).trans (Nat.zero_add _)

/-- Point `t`'s block of the codes of `x` starts at row `256 t`. -/
theorem read5 (f : Vec Ideal S9216x7168 .fp8e4m3) (t : Fin cfg0.N) (r : Fin 256) (k : Fin 7168) :
    ((cfg0.win 5).blk t).view.read (Elt Ideal) f (ix2 r k) = f (ix2 (at' t r) k) := by
  show f (((cfg0.win 5).blk t).view.emb (ix2 r k)) = _
  refine congrArg f (funext fun a => Fin.ext ?_)
  refine (ValueKit.view_emb_slice_whole_unit_val _ _ _ _ _ _).trans ?_
  fin_cases a
  · exact congrArg (· + r.val) (start5 t).1
  · exact (congrArg (· + k.val) (start5 t).2).trans (Nat.zero_add _)

/-- Point `t`'s block of the scales of `x` starts at row `256 t`. -/
theorem read6 (f : Vec Ideal S9216x1 .f32) (t : Fin cfg0.N) (r : Fin 256) (k : Fin 1) :
    ((cfg0.win 6).blk t).view.read (Elt Ideal) f (ix2 r k) = f (ix2 (at' t r) k) := by
  show f (((cfg0.win 6).blk t).view.emb (ix2 r k)) = _
  refine congrArg f (funext fun a => Fin.ext ?_)
  refine (ValueKit.view_emb_slice_whole_unit_val _ _ _ _ _ _).trans ?_
  fin_cases a
  · exact congrArg (· + r.val) (start6 t).1
  · exact (congrArg (· + k.val) (start6 t).2).trans (Nat.zero_add _)

/-- Every row of the arrays is a row of some point's block. -/
theorem row_eq (R : Fin 9216) : ∃ (t : Fin cfg0.N) (r : Fin 256), R = at' t r :=
  ⟨⟨R.val / 256, lt_of_lt_of_eq (by have := R.isLt; omega) Gen.N_0.symm⟩, ⟨R.val % 256, Nat.mod_lt _ (by decide)⟩,
    Fin.ext (by show R.val = R.val / 256 * 256 + R.val % 256; omega)⟩

/-- Row `R` of `x` as the kernel finds it. -/
def xrow (c : Dev nD) (R : Fin 9216) : Fin 7168 → EReal := fun k => (V m c main_v0 : Vec Ideal S9216x7168 .bf16) (ix2 R k)

/-- The gated row of row `R`. -/
def hrow (c : Dev nD) (R : Fin 9216) : Fin 2304 → EReal :=
  gatedRow (xrow m c R) (wts (V m c main_arg1)) (wsc (V m c main_v1))

theorem row_iblk (c : Dev nD) (t : Fin cfg0.N) (r : Fin 256) : row (iblk m c 0 t) r = xrow m c (at' t r) :=
  funext fun k => read0 (V m c main_v0) t r k

theorem wts_iblk (c : Dev nD) (t : Fin cfg0.N) : wts (iblk m c 1 t) = wts (V m c main_arg1) :=
  funext fun a => funext fun k => read1 (V m c main_arg1) t a k

theorem wsc_iblk (c : Dev nD) (t : Fin cfg0.N) : wsc (iblk m c 2 t) = wsc (V m c main_v1) :=
  funext fun k => read2 (V m c main_v1) t 0 k

/-- WINDOW 3, the first result: the scale of the gated row. -/
theorem out3 (c : Dev nD) (R : Fin 9216) :
    (dats m 0 c).arrAt 3 cfg0.N (ix2 R (0 : Fin 1)) = scale (hrow m c R) := by
  obtain ⟨t, r, rfl⟩ := row_eq R
  rw [← read3 ((dats m 0 c).arrAt 3 cfg0.N) t r 0, blocks3 m c t (flush0_3 t), flushed3]
  show out0_3 (iblk m c 0 t) (iblk m c 1 t) (iblk m c 2 t) (ix2 r 0) = _
  unfold out0_3 k0_pay21 k0_pay16 k0_pay17 k0_pay18 k0_pay19 k0_pay20
  rw [View.canon_unit_zero hz, View.ld_unit_zero hz, View.ld_unit_zero hz, View.ld_unit_zero hz, hscale_apply,
    row_iblk, wts_iblk, wsc_iblk]
  rfl

/-- WINDOW 4, the second result: the codes of the gated row. -/
theorem out4 (c : Dev nD) (R : Fin 9216) (k : Fin 2304) :
    (dats m 0 c).arrAt 4 cfg0.N (ix2 R k) = code (hrow m c R) k := by
  obtain ⟨t, r, rfl⟩ := row_eq R
  rw [← read4 ((dats m 0 c).arrAt 4 cfg0.N) t r k, blocks4 m c t (flush0_4 t), flushed4]
  show out0_4 (iblk m c 0 t) (iblk m c 1 t) (iblk m c 2 t) (ix2 r k) = _
  unfold out0_4 k0_pay21 k0_pay16 k0_pay17 k0_pay18 k0_pay19 k0_pay20
  rw [View.canon_unit_zero hz, View.ld_unit_zero hz, View.ld_unit_zero hz, View.ld_unit_zero hz, hcode_apply,
    row_iblk, wts_iblk, wsc_iblk]
  rfl

/-- WINDOW 5, the third result: the codes of the row of `x`. -/
theorem out5 (c : Dev nD) (R : Fin 9216) (k : Fin 7168) :
    (dats m 0 c).arrAt 5 cfg0.N (ix2 R k) = code (xrow m c R) k := by
  obtain ⟨t, r, rfl⟩ := row_eq R
  rw [← read5 ((dats m 0 c).arrAt 5 cfg0.N) t r k, blocks5 m c t (flush0_5 t), flushed5]
  show out0_5 (iblk m c 0 t) (iblk m c 1 t) (iblk m c 2 t) (ix2 r k) = _
  unfold out0_5 k0_pay16 k0_pay17
  rw [View.canon_unit_zero hz, View.ld_unit_zero hz, code_apply, row_iblk]

/-- WINDOW 6, the fourth result: the scale of the row of `x`. -/
theorem out6 (c : Dev nD) (R : Fin 9216) :
    (dats m 0 c).arrAt 6 cfg0.N (ix2 R (0 : Fin 1)) = scale (xrow m c R) := by
  obtain ⟨t, r, rfl⟩ := row_eq R
  rw [← read6 ((dats m 0 c).arrAt 6 cfg0.N) t r 0, blocks6 m c t (flush0_6 t), flushed6]
  show out0_6 (iblk m c 0 t) (iblk m c 1 t) (iblk m c 2 t) (ix2 r 0) = _
  unfold out0_6 k0_pay18 k0_pay19 k0_pay20
  rw [View.canon_unit_zero hz, View.ld_unit_zero hz, scale_apply, row_iblk]

end Cert.KernelArrays
-- ==== Proof.ReferenceRows.lean ====
/-
  THE REFERENCE'S BODY BY ROWS: each value the body stores is, at a row, that row's scale or codes, or those of the
  row's gated row.
-/
module

public import proofs.«01_k».proof.Proof.Spec
public import proofs.«01_k».proof.Proof.Gen.ReferenceIdeal.Skeleton

@[expose] public section

set_option maxRecDepth 16384

noncomputable section

namespace Cert.ReferenceRows

open Idealize.ShloMosaic Idealize.ShloMosaic.ValueIdx Cert.Scale Cert.Ops Cert.Spec Cert.ReferenceIdeal Cert.ReferenceIdeal.Gen

/-- Row `r` of `x`. -/
def row (x : Vec Ideal S9216x7168 .bf16) (r : Fin 9216) : Fin 7168 → EReal := fun c => x (ix2 r c)

/-- The weights by row and column. -/
def wts (w : Vec Ideal S7168x4608 .fp8e4m3) : Fin 7168 → Fin 4608 → EReal := fun a c => w (ix2 a c)

/-- The weights' scales by column. -/
def wsc (ws : Vec Ideal S1x4608 .f32) : Fin 4608 → EReal := fun c => ws (ix2 0 c)

/-- The lanes `k < 256` whose power of two is above `t`. -/
def above (t : FVec Ideal S9216x1 .f32) : IVec S9216x256 1 :=
  cmpf .olt (broadcastTo S9216x256 t broadcasts_S9216x1_S9216x256) (broadcastTo S9216x256 (exp2 (k0_pay9 (F := Ideal))) broadcasts_S1x256_S9216x256)

/-- A column of largest magnitudes times `1/448`. -/
def scaled (a : FVec Ideal S9216x1 .f32) : FVec Ideal S9216x1 .f32 := mulf a (broadcast S9216x1 (Scalar.ofBits (F := Ideal) .f32 0x3B124925#32))

/-- The reference's exponents of a column of largest magnitudes. -/
def expo (a : FVec Ideal S9216x1 .f32) : FVec Ideal S9216x1 .f32 :=
  k0_pay12 (F := Ideal) a (scaled a) (above (scaled a)) (Scalar.ofBits (F := Ideal) .f32 0x43000000#32) k0_pay11

theorem expo_apply (a : FVec Ideal S9216x1 .f32) (r : Fin 9216) : expo a (ix2 r 0) = rexp (a (ix2 r 0)) := by
  have h := rleast_apply (M := 9216) (scaled a) iota_S1x256_d1_w32 broadcasts_S9216x1_S9216x256 broadcasts_S1x256_S9216x256
    shapeCasts_S1x256_S1x256 reduces_S9216x256_S9216 (.inl rfl) rfl shapeCasts_S9216_S9216x1 r
  change _ = rleast (a (ix2 r 0) * unit448) at h
  unfold rexp
  rw [← h]
  rfl

/-- The values in f32. -/
theorem pay1_eq (x : Vec Ideal S9216x7168 .bf16) : k0_pay1 (F := Ideal) x = x := by
  unfold k0_pay1
  rw [shapeCast_self]; rfl

/-- The column of the largest magnitudes of the rows of `x`. -/
def top (x : Vec Ideal S9216x7168 .bf16) : FVec Ideal S9216x1 .f32 :=
  shapeCast S9216x1 (multiReduction .maximumf [1] S9216 (absf (k0_pay1 (F := Ideal) x)) 0xFF800000#32 reduces_S9216x7168_S9216 (.inl rfl) rfl) shapeCasts_S9216_S9216x1

theorem top_apply (x : Vec Ideal S9216x7168 .bf16) (r : Fin 9216) : top x (ix2 r 0) = amax (row x r) := by
  unfold top
  rw [pay1_eq]
  exact rowMax_apply (M := 9216) (N := 7168) x reduces_S9216x7168_S9216 (.inl rfl) rfl shapeCasts_S9216_S9216x1 r

theorem pay2_eq (x : Vec Ideal S9216x7168 .bf16) : k0_pay2 (F := Ideal) x = expo (top x) := rfl

/-- The reference's `ldexp(1, e)` of the exponents of `x`, at an element. -/
theorem pay3_read (x : Vec Ideal S9216x7168 .bf16) (j : S9216x1.Idx) : k0_pay3 (F := Ideal) x j = rldexp (k0_pay2 (F := Ideal) x j) := by
  unfold k0_pay3
  exact ldexp_apply (M := 9216) (k0_pay2 (F := Ideal) x) j

/-- The scales the reference stores for `x`. -/
theorem scale_apply (x : Vec Ideal S9216x7168 .bf16) (r : Fin 9216) : k0_pay3 (F := Ideal) x (ix2 r 0) = scale (row x r) := by
  unfold scale
  rw [← top_apply]
  rw [pay3_read, pay2_eq, expo_apply]
  rfl

/-- The reference's codes of values `v` under exponents `e`, at an element. -/
theorem pay5_read (v : FVec Ideal S9216x7168 .f32) (e : FVec Ideal S9216x1 .f32) (r : Fin 9216) (c : Fin 7168) :
    k0_pay5 (F := Ideal) v e k0_pay4 (ix2 r c) = clip (v (ix2 r c)) (rldexp (Ideal.ofBits .f32 0x00000000#32 - e (ix2 r 0))) := by
  unfold k0_pay5
  refine (clip_apply (M := 9216) (N := 7168) _ _ _ _ r c).trans ?_
  exact congrArg (clip (v (ix2 r c))) (ldexp_apply (M := 9216) (subf k0_pay4 e) (ix2 r 0))

/-- The codes the reference stores for `x`. -/
theorem code_apply (x : Vec Ideal S9216x7168 .bf16) (r : Fin 9216) (c : Fin 7168) :
    k0_pay5 (F := Ideal) (k0_pay1 (F := Ideal) x) (k0_pay2 (F := Ideal) x) k0_pay4 (ix2 r c) = code (row x r) c := by
  rw [pay5_read, pay1_eq, pay2_eq, expo_apply, top_apply]
  rfl

/-- The gated rows the reference computes. -/
theorem hidden_apply (x : Vec Ideal S9216x7168 .bf16) (w : Vec Ideal S7168x4608 .fp8e4m3) (ws : Vec Ideal S1x4608 .f32) (r : Fin 9216) (k : Fin 2304) :
    k0_pay6 (F := Ideal) (k0_pay1 (F := Ideal) x) (k0_pay2 (F := Ideal) x) (k0_pay3 (F := Ideal) x) k0_pay4 w ws (ix2 r k)
      = gatedRow (row x r) (wts w) (wsc ws) k := by
  unfold k0_pay6
  refine (gated_apply (M := 9216) (k0_pay5 (F := Ideal) (k0_pay1 (F := Ideal) x) (k0_pay2 (F := Ideal) x) k0_pay4)
    (k0_pay3 (F := Ideal) x) w ws
    broadcasts_S9216x1_S9216x4608 broadcasts_S1x4608_S9216x4608 shapeCasts_S1x4608_S1x4608 _ rfl
    slices_S9216x4608_o0_0_S9216x2304 slices_S9216x4608_o0_2304_S9216x2304 r k).trans ?_
  unfold gatedRow
  rw [scale_apply, show (fun c => k0_pay5 (F := Ideal) (k0_pay1 (F := Ideal) x) (k0_pay2 (F := Ideal) x) k0_pay4 (ix2 r c)) = code (row x r) from
    funext fun c => code_apply x r c]
  rfl

/-- The column of the largest magnitudes of the gated rows. -/
theorem top_hidden (x : Vec Ideal S9216x7168 .bf16) (w : Vec Ideal S7168x4608 .fp8e4m3) (ws : Vec Ideal S1x4608 .f32) (r : Fin 9216) :
    k0_pay7 (F := Ideal) (k0_pay1 (F := Ideal) x) (k0_pay2 (F := Ideal) x) (k0_pay3 (F := Ideal) x) k0_pay4 w ws (ix2 r 0)
      = amax (gatedRow (row x r) (wts w) (wsc ws)) := by
  unfold k0_pay7
  refine (rowMax_apply (M := 9216) (N := 2304) _ reduces_S9216x2304_S9216 (.inl rfl) rfl shapeCasts_S9216_S9216x1 r).trans ?_
  exact congrArg amax (funext fun k => hidden_apply x w ws r k)

/-- The scales the reference stores, from a column of largest magnitudes. -/
theorem pay13_apply (a : FVec Ideal S9216x1 .f32) (r : Fin 9216) :
    k0_pay13 (F := Ideal) a (scaled a) (above (scaled a)) (Scalar.ofBits (F := Ideal) .f32 0x43000000#32) k0_pay11 (ix2 r 0) = rscale (a (ix2 r 0)) := by
  show rldexp (expo a (ix2 r 0)) = rldexp _
  rw [expo_apply]

/-- The codes the reference stores for the gated rows, from them and their column of largest magnitudes. -/
theorem pay14_apply (h : FVec Ideal S9216x2304 .f32) (a : FVec Ideal S9216x1 .f32) (r : Fin 9216) (k : Fin 2304) :
    k0_pay14 (F := Ideal) h a (scaled a) (above (scaled a)) (Scalar.ofBits (F := Ideal) .f32 0x43000000#32) k0_pay11 (ix2 r k)
      = clip (h (ix2 r k)) (rinv (a (ix2 r 0))) := by
  unfold k0_pay14
  refine (clip_apply (M := 9216) (N := 2304) _ _ _ _ r k).trans ?_
  show clip _ (rldexp (Ideal.ofBits .f32 0x00000000#32 - expo a (ix2 r 0))) = clip _ (rldexp _)
  rw [expo_apply]

/-- The scales the reference stores for the gated rows. -/
theorem hscale_apply (x : Vec Ideal S9216x7168 .bf16) (w : Vec Ideal S7168x4608 .fp8e4m3) (ws : Vec Ideal S1x4608 .f32) (r : Fin 9216)
    (a : FVec Ideal S9216x1 .f32) (ha : a = k0_pay7 (F := Ideal) (k0_pay1 (F := Ideal) x) (k0_pay2 (F := Ideal) x) (k0_pay3 (F := Ideal) x) k0_pay4 w ws) :
    k0_pay13 (F := Ideal) a (scaled a) (above (scaled a)) (Scalar.ofBits (F := Ideal) .f32 0x43000000#32) k0_pay11 (ix2 r 0)
      = scale (gatedRow (row x r) (wts w) (wsc ws)) := by
  rw [pay13_apply, ha, top_hidden]; rfl

/-- The codes the reference stores for the gated rows. -/
theorem hcode_apply (x : Vec Ideal S9216x7168 .bf16) (w : Vec Ideal S7168x4608 .fp8e4m3) (ws : Vec Ideal S1x4608 .f32) (r : Fin 9216) (k : Fin 2304)
    (a : FVec Ideal S9216x1 .f32) (ha : a = k0_pay7 (F := Ideal) (k0_pay1 (F := Ideal) x) (k0_pay2 (F := Ideal) x) (k0_pay3 (F := Ideal) x) k0_pay4 w ws) :
    k0_pay14 (F := Ideal) (k0_pay6 (F := Ideal) (k0_pay1 (F := Ideal) x) (k0_pay2 (F := Ideal) x) (k0_pay3 (F := Ideal) x) k0_pay4 w ws)
      a (scaled a) (above (scaled a)) (Scalar.ofBits (F := Ideal) .f32 0x43000000#32) k0_pay11 (ix2 r k)
      = code (gatedRow (row x r) (wts w) (wsc ws)) k := by
  rw [pay14_apply, ha, top_hidden, hidden_apply]; rfl

end Cert.ReferenceRows
-- ==== Proof.ReferenceArrays.lean ====
/-
  THE REFERENCE'S RESULT ARRAYS BY ROWS: its one body call is handed the whole arrays and writes the whole results.
-/
module

public import proofs.«01_k».proof.Proof.ReferenceRows
public import proofs.«01_k».proof.Proof.Gen.ReferenceIdeal.Value
public import Idealize.ShloMosaic.Lib.Pipeline.ValueKit.Geometry

@[expose] public section

set_option maxRecDepth 16384

noncomputable section

namespace Cert.ReferenceArrays

open Idealize.ShloMosaic Idealize.ShloMosaic.TcCoe Idealize.SL.Sem
open Idealize.ShloMosaic.ValueIdx Cert.Scale Cert.Ops Cert.Spec Cert.ReferenceIdeal Cert.ReferenceIdeal.Gen
open Cert.ReferenceIdeal.Value Cert.ReferenceRows

variable (m : (ℓ : Loc nD τ sig) → Buf (Elt Ideal) ℓ)

/-- The two zero offsets of a whole-array access. -/
theorem hz : (![0, 0] : Fin 2 → Nat) = fun _ => 0 := funext fun a => by fin_cases a <;> rfl

/-- The one grid point. -/
abbrev t0 : Fin cfg0.N := ⟨0, lt_of_lt_of_eq Nat.zero_lt_one Gen.N_0.symm⟩

/-- Window 0's block is the whole array. -/
theorem read0 (f : Vec Ideal S9216x7168 .bf16) (r : Fin 9216) (k : Fin 7168) :
    ((cfg0.win 0).blk t0).view.read (Elt Ideal) f (ix2 r k) = f (ix2 r k) := by
  show f (((cfg0.win 0).blk t0).view.emb (ix2 r k)) = _
  refine congrArg f (funext fun a => Fin.ext ?_)
  refine (ValueKit.view_emb_slice_whole_unit_val _ _ _ _ _ _).trans ?_
  fin_cases a
  · exact Nat.zero_add _
  · exact Nat.zero_add _

/-- Window 1's block is the whole array. -/
theorem read1 (f : Vec Ideal S7168x4608 .fp8e4m3) (r : Fin 7168) (k : Fin 4608) :
    ((cfg0.win 1).blk t0).view.read (Elt Ideal) f (ix2 r k) = f (ix2 r k) := by
  show f (((cfg0.win 1).blk t0).view.emb (ix2 r k)) = _
  refine congrArg f (funext fun a => Fin.ext ?_)
  refine (ValueKit.view_emb_slice_whole_unit_val _ _ _ _ _ _).trans ?_
  fin_cases a
  · exact Nat.zero_add _
  · exact Nat.zero_add _

/-- Window 2's block is the whole array. -/
theorem read2 (f : Vec Ideal S1x4608 .f32) (r : Fin 1) (k : Fin 4608) :
    ((cfg0.win 2).blk t0).view.read (Elt Ideal) f (ix2 r k) = f (ix2 r k) := by
  show f (((cfg0.win 2).blk t0).view.emb (ix2 r k)) = _
  refine congrArg f (funext fun a => Fin.ext ?_)
  refine (ValueKit.view_emb_slice_whole_unit_val _ _ _ _ _ _).trans ?_
  fin_cases a
  · exact Nat.zero_add _
  · exact Nat.zero_add _

/-- Window 3's block is the whole array. -/
theorem read3 (f : Vec Ideal S9216x1 .f32) (r : Fin 9216) (k : Fin 1) :
    ((cfg0.win 3).blk t0).view.read (Elt Ideal) f (ix2 r k) = f (ix2 r k) := by
  show f (((cfg0.win 3).blk t0).view.emb (ix2 r k)) = _
  refine congrArg f (funext fun a => Fin.ext ?_)
  refine (ValueKit.view_emb_slice_whole_unit_val _ _ _ _ _ _).trans ?_
  fin_cases a
  · exact Nat.zero_add _
  · exact Nat.zero_add _

/-- Window 4's block is the whole array. -/
theorem read4 (f : Vec Ideal S9216x2304 .fp8e4m3) (r : Fin 9216) (k : Fin 2304) :
    ((cfg0.win 4).blk t0).view.read (Elt Ideal) f (ix2 r k) = f (ix2 r k) := by
  show f (((cfg0.win 4).blk t0).view.emb (ix2 r k)) = _
  refine congrArg f (funext fun a => Fin.ext ?_)
  refine (ValueKit.view_emb_slice_whole_unit_val _ _ _ _ _ _).trans ?_
  fin_cases a
  · exact Nat.zero_add _
  · exact Nat.zero_add _

/-- Window 5's block is the whole array. -/
theorem read5 (f : Vec Ideal S9216x7168 .fp8e4m3) (r : Fin 9216) (k : Fin 7168) :
    ((cfg0.win 5).blk t0).view.read (Elt Ideal) f (ix2 r k) = f (ix2 r k) := by
  show f (((cfg0.win 5).blk t0).view.emb (ix2 r k)) = _
  refine congrArg f (funext fun a => Fin.ext ?_)
  refine (ValueKit.view_emb_slice_whole_unit_val _ _ _ _ _ _).trans ?_
  fin_cases a
  · exact Nat.zero_add _
  · exact Nat.zero_add _

/-- Window 6's block is the whole array. -/
theorem read6 (f : Vec Ideal S9216x1 .f32) (r : Fin 9216) (k : Fin 1) :
    ((cfg0.win 6).blk t0).view.read (Elt Ideal) f (ix2 r k) = f (ix2 r k) := by
  show f (((cfg0.win 6).blk t0).view.emb (ix2 r k)) = _
  refine congrArg f (funext fun a => Fin.ext ?_)
  refine (ValueKit.view_emb_slice_whole_unit_val _ _ _ _ _ _).trans ?_
  fin_cases a
  · exact Nat.zero_add _
  · exact Nat.zero_add _

/-- Row `R` of `x` as the reference finds it. -/
def xrow (c : Dev nD) (R : Fin 9216) : Fin 7168 → EReal := fun k => (V m c main_v0 : Vec Ideal S9216x7168 .bf16) (ix2 R k)

/-- The gated row of row `R`. -/
def hrow (c : Dev nD) (R : Fin 9216) : Fin 2304 → EReal :=
  gatedRow (xrow m c R) (wts (V m c main_arg1)) (wsc (V m c main_v1))

theorem row_iblk (c : Dev nD) (r : Fin 9216) : row (iblk m c 0 t0) r = xrow m c r :=
  funext fun k => read0 (V m c main_v0) r k

theorem wts_iblk (c : Dev nD) : wts (iblk m c 1 t0) = wts (V m c main_arg1) :=
  funext fun a => funext fun k => read1 (V m c main_arg1) a k

theorem wsc_iblk (c : Dev nD) : wsc (iblk m c 2 t0) = wsc (V m c main_v1) :=
  funext fun k => read2 (V m c main_v1) 0 k

/-- WINDOW 3, the first result: the scale of the gated row. -/
theorem out3 (c : Dev nD) (R : Fin 9216) :
    (dats m 0 c).arrAt 3 cfg0.N (ix2 R (0 : Fin 1)) = scale (hrow m c R) := by
  rw [← read3 ((dats m 0 c).arrAt 3 cfg0.N) R 0, blocks3 m c t0 (flush0_3 t0), flushed3]
  show out0_3 (iblk m c 0 t0) (iblk m c 1 t0) (iblk m c 2 t0) (ix2 R 0) = _
  unfold out0_3 k0_pay21 k0_pay20 k0_pay19 k0_pay22 k0_pay15 k0_pay16 k0_pay17 k0_pay18
  rw [View.canon_unit_zero hz, View.ld_unit_zero hz, View.ld_unit_zero hz, View.ld_unit_zero hz]
  refine (hscale_apply (iblk m c 0 t0) (iblk m c 1 t0) (iblk m c 2 t0) R _ rfl).trans ?_
  rw [row_iblk, wts_iblk, wsc_iblk]
  rfl

/-- WINDOW 4, the second result: the codes of the gated row. -/
theorem out4 (c : Dev nD) (R : Fin 9216) (k : Fin 2304) :
    (dats m 0 c).arrAt 4 cfg0.N (ix2 R k) = code (hrow m c R) k := by
  rw [← read4 ((dats m 0 c).arrAt 4 cfg0.N) R k, blocks4 m c t0 (flush0_4 t0), flushed4]
  show out0_4 (iblk m c 0 t0) (iblk m c 1 t0) (iblk m c 2 t0) (ix2 R k) = _
  unfold out0_4 k0_pay21 k0_pay20 k0_pay19 k0_pay22 k0_pay15 k0_pay16 k0_pay17 k0_pay18
  rw [View.canon_unit_zero hz, View.ld_unit_zero hz, View.ld_unit_zero hz, View.ld_unit_zero hz]
  refine (hcode_apply (iblk m c 0 t0) (iblk m c 1 t0) (iblk m c 2 t0) R k _ rfl).trans ?_
  rw [row_iblk, wts_iblk, wsc_iblk]
  rfl

/-- WINDOW 5, the third result: the codes of the row of `x`. -/
theorem out5 (c : Dev nD) (R : Fin 9216) (k : Fin 7168) :
    (dats m 0 c).arrAt 5 cfg0.N (ix2 R k) = code (xrow m c R) k := by
  rw [← read5 ((dats m 0 c).arrAt 5 cfg0.N) R k, blocks5 m c t0 (flush0_5 t0), flushed5]
  show out0_5 (iblk m c 0 t0) (iblk m c 1 t0) (iblk m c 2 t0) (ix2 R k) = _
  unfold out0_5 k0_pay15 k0_pay16 k0_pay18
  rw [View.canon_unit_zero hz, View.ld_unit_zero hz, code_apply, row_iblk]

/-- WINDOW 6, the fourth result: the scale of the row of `x`. -/
theorem out6 (c : Dev nD) (R : Fin 9216) :
    (dats m 0 c).arrAt 6 cfg0.N (ix2 R (0 : Fin 1)) = scale (xrow m c R) := by
  rw [← read6 ((dats m 0 c).arrAt 6 cfg0.N) R 0, blocks6 m c t0 (flush0_6 t0), flushed6]
  show out0_6 (iblk m c 0 t0) (iblk m c 1 t0) (iblk m c 2 t0) (ix2 R 0) = _
  unfold out0_6 k0_pay17
  rw [View.canon_unit_zero hz, View.ld_unit_zero hz, scale_apply, row_iblk]

end Cert.ReferenceArrays
-- ==== Proof.lean ====
/-
  THE CERTIFICATE: the frames, and the equality of the kernel's and the reference's results at the ideal instance.

  Both programs' results are, row by row, the same functions of the rows of `x`, the weights and the weights' scales
  (Proof/KernelArrays.lean, Proof/ReferenceArrays.lean); here equal arguments give equal rows, and the claims are put
  together.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelArrays
public import proofs.«01_k».proof.Proof.ReferenceArrays

@[expose] public section

set_option maxRecDepth 16384

noncomputable section

namespace Cert.Proof

open Idealize.ShloMosaic Idealize.ShloMosaic.TcCoe Idealize.SL.Sem
open Idealize.ShloMosaic.ValueIdx

/-- The kernel's memory, and the reference's. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The kernel finds `x` reshaped to 9216 rows. -/
theorem kernel_x (m : KMem) (c : Dev Cert.KernelIdeal.nD) :
    (Cert.KernelIdeal.Gen.V m c Cert.KernelIdeal.main_v0 : Vec Ideal Cert.KernelIdeal.S9216x7168 .bf16)
      = shapeCast Cert.KernelIdeal.S9216x7168 (m ((c.tc : Thread _ _).loc Cert.KernelIdeal.main_arg0) : Vec Ideal Cert.KernelIdeal.S3x3072x7168 .bf16)
          Cert.KernelIdeal.Gen.shapeCasts_S3x3072x7168_S9216x7168 := by
  show StableHlo.after Cert.KernelIdeal.Gen.hostOps0 _ (Proc.devRef .tc Cert.KernelIdeal.main_v0) = _
  after_results
  rfl

/-- The kernel finds the weights' scales as one row. -/
theorem kernel_ws (m : KMem) (c : Dev Cert.KernelIdeal.nD) :
    (Cert.KernelIdeal.Gen.V m c Cert.KernelIdeal.main_v1 : Vec Ideal Cert.KernelIdeal.S1x4608 .f32)
      = shapeCast Cert.KernelIdeal.S1x4608 (m ((c.tc : Thread _ _).loc Cert.KernelIdeal.main_arg2) : Vec Ideal Cert.KernelIdeal.S4608 .f32)
          Cert.KernelIdeal.Gen.shapeCasts_S4608_S1x4608 := by
  show StableHlo.after Cert.KernelIdeal.Gen.hostOps0 _ (Proc.devRef .tc Cert.KernelIdeal.main_v1) = _
  after_results
  rfl

/-- The reference finds `x` reshaped to 9216 rows. -/
theorem reference_x (m : RMem) (c : Dev Cert.ReferenceIdeal.nD) :
    (Cert.ReferenceIdeal.Gen.V m c Cert.ReferenceIdeal.main_v0 : Vec Ideal Cert.ReferenceIdeal.S9216x7168 .bf16)
      = shapeCast Cert.ReferenceIdeal.S9216x7168 (m ((c.tc : Thread _ _).loc Cert.ReferenceIdeal.main_arg0) : Vec Ideal Cert.ReferenceIdeal.S3x3072x7168 .bf16)
          Cert.ReferenceIdeal.Gen.shapeCasts_S3x3072x7168_S9216x7168 := by
  show StableHlo.after Cert.ReferenceIdeal.Gen.hostOps0 _ (Proc.devRef .tc Cert.ReferenceIdeal.main_v0) = _
  after_results
  rfl

/-- The reference finds the weights' scales as one row. -/
theorem reference_ws (m : RMem) (c : Dev Cert.ReferenceIdeal.nD) :
    (Cert.ReferenceIdeal.Gen.V m c Cert.ReferenceIdeal.main_v1 : Vec Ideal Cert.ReferenceIdeal.S1x4608 .f32)
      = shapeCast Cert.ReferenceIdeal.S1x4608 (m ((c.tc : Thread _ _).loc Cert.ReferenceIdeal.main_arg2) : Vec Ideal Cert.ReferenceIdeal.S4608 .f32)
          Cert.ReferenceIdeal.Gen.shapeCasts_S4608_S1x4608 := by
  show StableHlo.after Cert.ReferenceIdeal.Gen.hostOps0 _ (Proc.devRef .tc Cert.ReferenceIdeal.main_v1) = _
  after_results
  rfl

/-- The two memories hold the same arguments on every device. -/
def Agree (m : KMem) (m' : RMem) : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

section Agreeing

variable {m : KMem} {m' : RMem} (h : Agree m m') (c : Dev Cert.KernelIdeal.nD)
include h

/-- Equal arguments give equal rows of `x`. -/
theorem xrow_eq (R : Fin 9216) : Cert.ReferenceArrays.xrow m' c R = Cert.KernelArrays.xrow m c R := by
  funext k
  unfold Cert.ReferenceArrays.xrow Cert.KernelArrays.xrow
  rw [kernel_x, reference_x, (h c).1]

/-- Equal arguments give equal weights. -/
theorem wts_eq : Cert.ReferenceRows.wts (Cert.ReferenceIdeal.Gen.V m' c Cert.ReferenceIdeal.main_arg1)
    = Cert.KernelRows.wts (Cert.KernelIdeal.Gen.V m c Cert.KernelIdeal.main_arg1) := by
  rw [Cert.ReferenceIdeal.Gen.V_main_arg1, Cert.KernelIdeal.Gen.V_main_arg1, (h c).2.1]
  rfl

/-- Equal arguments give equal scales of the weights. -/
theorem wsc_eq : Cert.ReferenceRows.wsc (Cert.ReferenceIdeal.Gen.V m' c Cert.ReferenceIdeal.main_v1)
    = Cert.KernelRows.wsc (Cert.KernelIdeal.Gen.V m c Cert.KernelIdeal.main_v1) := by
  rw [kernel_ws, reference_ws, (h c).2.2]
  rfl

/-- Equal arguments give equal gated rows. -/
theorem hrow_eq (R : Fin 9216) : Cert.ReferenceArrays.hrow m' c R = Cert.KernelArrays.hrow m c R := by
  unfold Cert.ReferenceArrays.hrow Cert.KernelArrays.hrow
  rw [xrow_eq h c R, wts_eq h c, wsc_eq h c]

/-- THE FIRST RESULT, the scales of the gated rows: the reference's array is the kernel's. -/
theorem result0 : (Cert.ReferenceIdeal.Gen.dats m' 0 c).arrAt 3 Cert.ReferenceIdeal.cfg0.N
    = (Cert.KernelIdeal.Gen.dats m 0 c).arrAt 3 Cert.KernelIdeal.cfg0.N := by
  refine funext fun (i : Cert.KernelIdeal.S9216x1.Idx) => ?_
  obtain ⟨R, rfl⟩ : ∃ R : Fin 9216, i = ix2 R (0 : Fin 1) :=
    ⟨i 0, (eq_ix2 i).trans (congrArg (ix2 (i 0)) (Fin.eq_zero (show Fin 1 from i 1)))⟩
  exact (Cert.ReferenceArrays.out3 m' c R).trans ((congrArg Cert.Spec.scale (hrow_eq h c R)).trans (Cert.KernelArrays.out3 m c R).symm)

/-- THE SECOND RESULT, the codes of the gated rows. -/
theorem result1 : (Cert.ReferenceIdeal.Gen.dats m' 0 c).arrAt 4 Cert.ReferenceIdeal.cfg0.N
    = (Cert.KernelIdeal.Gen.dats m 0 c).arrAt 4 Cert.KernelIdeal.cfg0.N := by
  refine funext fun (i : Cert.KernelIdeal.S9216x2304.Idx) => ?_
  obtain ⟨R, k, rfl⟩ : ∃ (R : Fin 9216) (k : Fin 2304), i = ix2 R k := ⟨i 0, i 1, eq_ix2 i⟩
  exact (Cert.ReferenceArrays.out4 m' c R k).trans
    ((congrArg (fun row => Cert.Spec.code row k) (hrow_eq h c R)).trans (Cert.KernelArrays.out4 m c R k).symm)

/-- THE THIRD RESULT, the codes of `x`. -/
theorem result2 : (Cert.ReferenceIdeal.Gen.dats m' 0 c).arrAt 5 Cert.ReferenceIdeal.cfg0.N
    = (Cert.KernelIdeal.Gen.dats m 0 c).arrAt 5 Cert.KernelIdeal.cfg0.N := by
  refine funext fun (i : Cert.KernelIdeal.S9216x7168.Idx) => ?_
  obtain ⟨R, k, rfl⟩ : ∃ (R : Fin 9216) (k : Fin 7168), i = ix2 R k := ⟨i 0, i 1, eq_ix2 i⟩
  exact (Cert.ReferenceArrays.out5 m' c R k).trans
    ((congrArg (fun row => Cert.Spec.code row k) (xrow_eq h c R)).trans (Cert.KernelArrays.out5 m c R k).symm)

/-- THE FOURTH RESULT, the scales of `x`. -/
theorem result3 : (Cert.ReferenceIdeal.Gen.dats m' 0 c).arrAt 6 Cert.ReferenceIdeal.cfg0.N
    = (Cert.KernelIdeal.Gen.dats m 0 c).arrAt 6 Cert.KernelIdeal.cfg0.N := by
  refine funext fun (i : Cert.KernelIdeal.S9216x1.Idx) => ?_
  obtain ⟨R, rfl⟩ : ∃ R : Fin 9216, i = ix2 R (0 : Fin 1) :=
    ⟨i 0, (eq_ix2 i).trans (congrArg (ix2 (i 0)) (Fin.eq_zero (show Fin 1 from i 1)))⟩
  exact (Cert.ReferenceArrays.out6 m' c R).trans ((congrArg Cert.Spec.scale (xrow_eq h c R)).trans (Cert.KernelArrays.out6 m c R).symm)

end Agreeing

/-- THE VALUE CLAIM: from memories that agree on the arguments, the kernel and the reference both run and end with equal
    results, all four of them, and unchanged arguments. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => (Cert.KernelIdeal.Gen.dats m 0 c).arrAt 3 Cert.KernelIdeal.cfg0.N,
    fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m g,
    (θ_run _ _ _).mono (fun _ hr c => ⟨(hr c).1.trans (result0 hagree c), (hr c).2.1.trans (result1 hagree c),
      (hr c).2.2.1.trans (result2 hagree c), (hr c).2.2.2.1.trans (result3 hagree c), (hr c).2.2.2.2⟩)
      (Cert.ReferenceIdeal.Value.run_blocks m' g')⟩

/-- THE CERTIFICATE: the three frames, the idealization's (empty) side conditions, and the value claim. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end

end
